-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fine [hPre_fine : Cert.Pre_fine.Facts] (m : (ℓ : Loc Cert.KernelIdeal.nD Cert.KernelIdeal.τ Cert.KernelIdeal.sig) → Buf (Elt Ideal) ℓ) : Prop :=
  ∀ c : Dev Cert.KernelIdeal.nD,
    (Cert.Pre_fine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fine [hPre_fine : Cert.Pre_fine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_fine [hKernelIdeal : Cert.KernelIdeal.Facts] [hPre_fine : Cert.Pre_fine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_fine [hReferenceIdeal : Cert.ReferenceIdeal.Facts] [hPre_fine : Cert.Pre_fine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_fine [hKernelIdeal : Cert.KernelIdeal.Facts] [hReferenceIdeal : Cert.ReferenceIdeal.Facts] [hPre_fine : Cert.Pre_fine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_fine : Cert.Pre_fine.Facts),
    quiescent_Kernel (hKernel := hKernel)
    ∧ quiescent_KernelIdeal (hKernelIdeal := hKernelIdeal)
    ∧ quiescent_KernelIdeal_pre_fine (hKernelIdeal := hKernelIdeal) (hPre_fine := hPre_fine)
    ∧ quiescent_ReferenceIdeal (hReferenceIdeal := hReferenceIdeal)
    ∧ quiescent_ReferenceIdeal_pre_fine (hReferenceIdeal := hReferenceIdeal) (hPre_fine := hPre_fine)
    ∧ preserves_Kernel_KernelIdeal
    ∧ algebraic_KernelIdeal_ReferenceIdeal_pre_fine (hKernelIdeal := hKernelIdeal) (hReferenceIdeal := hReferenceIdeal) (hPre_fine := hPre_fine)
-- ==== Pre_fine.lean ====
abbrev S262144x64 : Shape := ⟨2, ![262144, 64]⟩
abbrev S262144 : Shape := ⟨1, ![262144]⟩
abbrev S64x64 : Shape := ⟨2, ![64, 64]⟩
abbrev S64 : Shape := ⟨1, ![64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg7 : FVec F S64 .f32) (main_arg8 : FVec F S64 .f32) (main_v7 : IVec S_ 1) (main_v14 : IVec S64 1) (main_v17 : IVec S64 1) : IVec S_ 1 :=
  let main_v18 : IVec S64 1 := andi main_v14 main_v17
  let main_cst_4 : FVec F S_ .f32 := constant S_ .f32 0x00000000#32
  let main_v19 : FVec F S64 .f32 := broadcastInDim S64 ![] bcast_S_S64 main_cst_4
  let main_v20 : IVec S64 1 := cmpf .oge main_arg4 main_v19
  let main_v21 : IVec S64 1 := andi main_v18 main_v20
  let main_c_5 : IVec S_ 1 := constantI S_ 1 1#1
  let main_v22 : IVec S_ 1 := (fun x v => Host.reduce IntOp.andi x v reducesTo_S64_S_d0 h_S_) main_v21 main_c_5
  let main_v23 : IVec S_ 1 := andi main_v7 main_v22
  let main_v24 : FVec F S64 .f32 := Host.absf main_arg7
  let main_cst_6 : FVec F S_ .f32 := constant S_ .f32 0x7F800000#32
  let main_v25 : FVec F S64 .f32 := broadcastInDim S64 ![] bcast_S_S64 main_cst_6
  let main_v26 : IVec S64 1 := cmpf .olt main_v24 main_v25
  let main_v27 : FVec F S64 .f32 := Host.absf main_arg8
  let main_cst_7 : FVec F S_ .f32 := constant S_ .f32 0x7F800000#32
  let main_v28 : FVec F S64 .f32 := broadcastInDim S64 ![] bcast_S_S64 main_cst_7
  let main_v29 : IVec S64 1 := cmpf .olt main_v27 main_v28
  let main_v30 : IVec S64 1 := andi main_v26 main_v29
  let main_c_8 : IVec S_ 1 := constantI S_ 1 1#1
  let main_v31 : IVec S_ 1 := (fun x v => Host.reduce IntOp.andi x v reducesTo_S64_S_d0 h_S_) main_v30 main_c_8
  let main_v32 : IVec S_ 1 := andi main_v23 main_v31
  main_v32

def fn {F : FTy → Type} [FloatOps F] (main_arg0 : FVec F S262144x64 .f32) (main_arg1 : IVec S262144 1) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S64x64 .f32 := Host.absf main_arg2
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_v3 : FVec F S64x64 .f32 := Host.absf main_arg6
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : IVec S64x64 1 := andi main_v2 main_v5
  let main_c : IVec S_ 1 := constantI S_ 1 1#1
  let main_v7 : IVec S_ 1 := (fun x v => Host.reduce IntOp.andi x v reducesTo_S64x64_S_d0_1 h_S_) main_v6 main_c
  let main_v8 : FVec F S64 .f32 := Host.absf main_arg3
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_v11 : FVec F S64 .f32 := Host.absf main_arg4
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : IVec S64 1 := andi main_v10 main_v13
  let main_v15 : FVec F S64 .f32 := Host.absf main_arg5
  let main_cst_3 : FVec F S_ .f32 := constant S_ .f32 0x7F800000#32
  let main_v16 : FVec F S64 .f32 := broadcastInDim S64 ![] bcast_S_S64 main_cst_3
  let main_v17 : IVec S64 1 := cmpf .olt main_v15 main_v16
  fn_part1 (F := F) main_arg4 main_arg7 main_arg8 main_v7 main_v14 main_v17
-- ==== Kernel.lean ====
abbrev S262144x64 : Shape := ⟨2, ![262144, 64]⟩
abbrev S262144 : Shape := ⟨1, ![262144]⟩
abbrev S64x64 : Shape := ⟨2, ![64, 64]⟩
abbrev S64 : Shape := ⟨1, ![64]⟩
abbrev S131072x128 : Shape := ⟨2, ![131072, 128]⟩
abbrev S131072x2 : Shape := ⟨2, ![131072, 2]⟩
abbrev S_ : Shape := ⟨0, ![]⟩
abbrev S128x128 : Shape := ⟨2, ![128, 128]⟩
abbrev S1 : Shape := ⟨1, ![1]⟩
abbrev S2 : Shape := ⟨1, ![2]⟩
abbrev S1x64 : Shape := ⟨2, ![1, 64]⟩
abbrev S8192x128 : Shape := ⟨2, ![8192, 128]⟩
abbrev S8192x2 : Shape := ⟨2, ![8192, 2]⟩
abbrev S1x128 : Shape := ⟨2, ![1, 128]⟩
abbrev S1x2 : Shape := ⟨2, ![1, 2]⟩
abbrev S2x128 : Shape := ⟨2, ![2, 128]⟩
abbrev S1x8192 : Shape := ⟨2, ![1, 8192]⟩
abbrev S1x1x2 : Shape := ⟨3, ![1, 1, 2]⟩
abbrev S1x1x1 : Shape := ⟨3, ![1, 1, 1]⟩
abbrev S64x1 : Shape := ⟨2, ![64, 1]⟩
abbrev S64x128 : Shape := ⟨2, ![64, 128]⟩

abbrev nBuf : Space → Nat
  | .hbm => 37
  | .vmem => 27
  | .smem => 0
  | _ => 0

abbrev bufTy : (tb : Table) → Fin (tcTables nBuf tb) → BufTy
  | .hbm, ⟨0, _⟩ => ⟨S262144x64, .f32⟩
  | .hbm, ⟨1, _⟩ => ⟨S262144, .i1⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S131072x128, .f32⟩
  | .hbm, ⟨11, _⟩ => ⟨S262144, .bf16⟩
  | .hbm, ⟨12, _⟩ => ⟨S131072x2, .bf16⟩
  | .hbm, ⟨13, _⟩ => ⟨S_, .f32⟩
  | .hbm, ⟨14, _⟩ => ⟨S128x128, .f32⟩
  | .hbm, ⟨15, _⟩ => ⟨S64x64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x128, .f32⟩
  | .hbm, ⟨28, _⟩ => ⟨S128x128, .bf16⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S131072x128, .f32⟩
  | .hbm, ⟨36, _⟩ => ⟨S262144x64, .f32⟩
  | .local _ .vmem, ⟨0, _⟩ => ⟨S8192x128, .f32⟩
  | .local _ .vmem, ⟨1, _⟩ => ⟨S8192x128, .f32⟩
  | .local _ .vmem, ⟨2, _⟩ => ⟨S8192x2, .bf16⟩
  | .local _ .vmem, ⟨3, _⟩ => ⟨S8192x2, .bf16⟩
  | .local _ .vmem, ⟨4, _⟩ => ⟨S64x64, .f32⟩
  | .local _ .vmem, ⟨5, _⟩ => ⟨S128x128, .bf16⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S8192x128, .f32⟩
  | .local _ .vmem, ⟨14, _⟩ => ⟨S8192x128, .f32⟩
  | .local _ .vmem, ⟨15, _⟩ => ⟨S131072x128, .bf16⟩
  | .local _ .vmem, ⟨16, _⟩ => ⟨S128x128, .f32⟩
  | .local _ .vmem, ⟨17, _⟩ => ⟨S1x128, .f32⟩
  | .local _ .vmem, ⟨18, _⟩ => ⟨S1x2, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x64, .f32⟩
  | .local _ .vmem, ⟨24, _⟩ => ⟨S1x64, .f32⟩
  | .local _ .vmem, ⟨25, _⟩ => ⟨S128x128, .bf16⟩
  | .local _ .vmem, ⟨26, _⟩ => ⟨S2x128, .bf16⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![3, 16], ![false, false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg1 : BitVec 32 := BitVec.ofNat 32 (i 1).val
  let c8192_i32 : BitVec 32 := 8192#32
  let v62 : BitVec 32 := Scalar.muli arg1 c8192_i32
  let v63 : Index := Scalar.indexCast v62
  let c0_22 : Index := 0#32
  ![v63.toNat, 0]
def k0_cond4 (i : grid0.Coords) : BitVec 1 :=
  let arg0 : BitVec 32 := BitVec.ofNat 32 (i 0).val
  let c1_i32_6 : BitVec 32 := 1#32
  let v14 : BitVec 1 := Scalar.cmpi .eq arg0 c1_i32_6
  let v15 : BitVec 32 := Scalar.extui v14
  let c0_i32_7 : BitVec 32 := 0#32
  let v16 : BitVec 1 := Scalar.cmpi .ne v15 c0_i32_7
  v16

def k0_off2 (i : grid0.Coords) : Fin 2 → Nat :=
  let arg1 : BitVec 32 := BitVec.ofNat 32 (i 1).val
  let c8192_i32 : BitVec 32 := 8192#32
  let v25 : BitVec 32 := Scalar.muli arg1 c8192_i32
  let v26 : Index := Scalar.indexCast v25
  let c0 : Index := 0#32
  ![v26.toNat, 0]
def k0_cond6 (i : grid0.Coords) : BitVec 1 :=
  let arg0 : BitVec 32 := BitVec.ofNat 32 (i 0).val
  let c2_i32_10 : BitVec 32 := 2#32
  let v22 : BitVec 1 := Scalar.cmpi .eq arg0 c2_i32_10
  let v23 : BitVec 32 := Scalar.extui v22
  let c0_i32_11 : BitVec 32 := 0#32
  let v24 : BitVec 1 := Scalar.cmpi .ne v23 c0_i32_11
  v24

def k0_off3 (i : grid0.Coords) : Fin 2 → Nat :=
  let arg1 : BitVec 32 := BitVec.ofNat 32 (i 1).val
  let c8192_i32 : BitVec 32 := 8192#32
  let v25 : BitVec 32 := Scalar.muli arg1 c8192_i32
  let v26 : Index := Scalar.indexCast v25
  let c0 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x2 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S262144x64 : Shape := ⟨2, ![262144, 64]⟩
abbrev S262144 : Shape := ⟨1, ![262144]⟩
abbrev S64x64 : Shape := ⟨2, ![64, 64]⟩
abbrev S64 : Shape := ⟨1, ![64]⟩
abbrev S262144x1 : Shape := ⟨2, ![262144, 1]⟩
abbrev S1x64 : Shape := ⟨2, ![1, 64]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144, .i1⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S262144, .f32⟩
  | .hbm, ⟨11, _⟩ => ⟨S262144x1, .f32⟩
  | .hbm, ⟨12, _⟩ => ⟨S64x64, .f32⟩
  | .hbm, ⟨13, _⟩ => ⟨S262144x64, .f32⟩
  | .hbm, ⟨14, _⟩ => ⟨S1x64, .f32⟩
  | .hbm, ⟨15, _⟩ => ⟨S262144x64, .f32⟩
  | .hbm, ⟨16, _⟩ => ⟨S262144x64, .f32⟩
  | .hbm, ⟨17, _⟩ => ⟨S_, .f32⟩
  | .hbm, ⟨18, _⟩ => ⟨S_, .f32⟩
  | .hbm, ⟨19, _⟩ => ⟨S262144x64, .f32⟩
  | .hbm, ⟨20, _⟩ => ⟨S262144x64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S262144x64, .f32⟩
  | .hbm, ⟨27, _⟩ => ⟨S262144x64, .f32⟩
  | .hbm, ⟨28, _⟩ => ⟨S262144x64, .f32⟩
  | .hbm, ⟨29, _⟩ => ⟨S262144x64, .f32⟩
  | .hbm, ⟨30, _⟩ => ⟨S262144x64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S262144x64, .f32⟩
  | .hbm, ⟨44, _⟩ => ⟨S262144x64, .f32⟩
  | .hbm, ⟨45, _⟩ => ⟨S1x64, .f32⟩
  | .hbm, ⟨46, _⟩ => ⟨S262144x64, .f32⟩
  | .hbm, ⟨47, _⟩ => ⟨S262144x64, .f32⟩
  | .hbm, ⟨48, _⟩ => ⟨S1x64, .f32⟩
  | .hbm, ⟨49, _⟩ => ⟨S262144x64, .f32⟩
  | .hbm, ⟨50, _⟩ => ⟨S262144x64, .f32⟩
  | .hbm, ⟨51, _⟩ => ⟨S_, .f32⟩
  | .hbm, ⟨52, _⟩ => ⟨S262144x64, .f32⟩
  | .hbm, ⟨53, _⟩ => ⟨S262144x64, .f32⟩
  | .hbm, ⟨54, _⟩ => ⟨S64x64, .f32⟩
  | .hbm, ⟨55, _⟩ => ⟨S262144x64, .f32⟩
  | .hbm, ⟨56, _⟩ => ⟨S1x64, .f32⟩
  | .hbm, ⟨57, _⟩ => ⟨S262144x64, .f32⟩
  | .hbm, ⟨58, _⟩ => ⟨S262144x64, .f32⟩
  | .hbm, ⟨59, _⟩ => ⟨S_, .f32⟩
  | .hbm, ⟨60, _⟩ => ⟨S_, .f32⟩
  | .hbm, ⟨61, _⟩ => ⟨S262144x64, .f32⟩
  | .hbm, ⟨62, _⟩ => ⟨S262144x64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S1x64, .f32⟩
  | .hbm, ⟨68, _⟩ => ⟨S262144x64, .f32⟩
  | .hbm, ⟨69, _⟩ => ⟨S262144x64, .f32⟩
  | .hbm, ⟨70, _⟩ => ⟨S262144x64, .f32⟩
  | .hbm, ⟨71, _⟩ => ⟨S262144x64, .f32⟩
  | .hbm, ⟨72, _⟩ => ⟨S262144x64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S262144x64, .f32⟩
  | .hbm, ⟨79, _⟩ => ⟨S262144x64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S262144x64, .f32⟩
  | .hbm, ⟨86, _⟩ => ⟨S262144x64, .f32⟩
  | .hbm, ⟨87, _⟩ => ⟨S1x64, .f32⟩
  | .hbm, ⟨88, _⟩ => ⟨S262144x64, .f32⟩
  | .hbm, ⟨89, _⟩ => ⟨S262144x64, .f32⟩
  | .hbm, ⟨90, _⟩ => ⟨S1x64, .f32⟩
  | .hbm, ⟨91, _⟩ => ⟨S262144x64, .f32⟩
  | .hbm, ⟨92, _⟩ => ⟨S262144x64, .f32⟩
  | .hbm, ⟨93, _⟩ => ⟨S262144x64, .f32⟩
  | .hbm, ⟨94, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.VecWindow

/-! What one run of the kernel's body does, one theorem for each pattern of taken branches: the arrays it touches before, and after. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's first branch: the first point of the grid. -/
abbrev c0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the second branch: phase 0. -/
abbrev c1 (i : grid0.Coords) : Prop := k0_cond2 i = 1#1
/-- The condition of the third branch: the first point of phase 1. -/
abbrev c2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The condition of the fourth branch: phase 1. -/
abbrev c3 (i : grid0.Coords) : Prop := k0_cond4 i = 1#1
/-- The condition of the fifth branch: the first point of phase 2. -/
abbrev c4 (i : grid0.Coords) : Prop := (Scalar.cmpi .ne (Scalar.extui (Scalar.andi (Scalar.cmpi .eq (BitVec.ofNat 32 (i 0).val) 2#32) (Scalar.cmpi .eq (BitVec.ofNat 32 (i 1).val) 0#32))) 0#32) = 1#1
/-- The condition of the sixth branch: phase 2. -/
abbrev c5 (i : grid0.Coords) : Prop := k0_cond6 i = 1#1

/-! ## What the two setups between the phases compute -/

/-- The first layer's scale `g1 / sqrt (var1 + eps)`, from the totals of phase 0. -/
abbrev scale1 (w1 : Vec F S64x64 .f32) (g1 : Vec F S1x64 .f32) (m1 : Vec F S128x128 .f32) (sx : Vec F S1x128 .f32) (n2 : Vec F S1x2 .f32) : Vec F S1x64 .f32 :=
  k0_pay27 n2 w1 sx m1 g1
/-- The first layer's mean less its bias, as the setup computes it (the bias added and taken off again). -/
abbrev shift1 (w1 : Vec F S64x64 .f32) (b1 : Vec F S1x64 .f32) (sx : Vec F S1x128 .f32) (n2 : Vec F S1x2 .f32) : Vec F S1x64 .f32 :=
  k0_pay28 n2 w1 sx b1 b1
/-- The second layer's weights with the first layer's scale folded in. -/
abbrev folded (w2 : Vec F S64x64 .f32) (a1 : Vec F S1x64 .f32) : Vec F S64x64 .f32 := k0_pay31 w2 a1
/-- The second layer's variance plus eps, from the totals of phase 1. -/
abbrev var2 (w2 : Vec F S64x64 .f32) (n2 : Vec F S1x2 .f32) (mv : Vec F S128x128 .f32) (sv : Vec F S1x128 .f32) (a1 : Vec F S1x64 .f32) : Vec F S1x64 .f32 :=
  k0_pay35 n2 w2 a1 sv mv
/-- The block-diagonal weights of phase 2. -/
abbrev diag2 (w2 : Vec F S64x64 .f32) (g2 : Vec F S1x64 .f32) (n2 : Vec F S1x2 .f32) (mv : Vec F S128x128 .f32) (sv : Vec F S1x128 .f32) (a1 : Vec F S1x64 .f32) : Vec F S128x128 .bf16 :=
  k0_pay43 (k0_pay39 (folded w2 a1) (k0_pay34 g2) (var2 w2 n2 mv sv a1)) k0_pay40 (iota .tc S128x128 32 [1] iota_S128x128_d1_w32) 64#32 k0_pay41 k0_pay42 0#32
/-- The row added to the selected rows in phase 2. -/
abbrev add2 (w2 : Vec F S64x64 .f32) (b2 g2 e2 : Vec F S1x64 .f32) (n2 : Vec F S1x2 .f32) (mv : Vec F S128x128 .f32) (sv : Vec F S1x128 .f32) (a1 u0 : Vec F S1x64 .f32) : Vec F S2x128 .bf16 :=
  k0_pay20 (k0_pay38 (k0_pay30 b2) u0 (folded w2 a1) (k0_pay33 n2 b2 u0 w2 a1 sv) (k0_pay34 g2) (var2 w2 n2 mv sv a1) e2) (iota .tc S2x128 32 [0] iota_S2x128_d0_w32) k0_pay44 k0_pay45 k0_pay46 0#32
/-- The block of `xu` that phase 1 reads and writes at a point. -/
abbrev cut1 (i : grid0.Coords) (h : c3 i) (xu : Vec F S131072x128 .bf16) : Vec F S8192x128 .bf16 :=
  VecWindow.window xu (k0_off2 i) S8192x128.size (k0_off2_inb i h)
/-- The block of `xu` that phase 2 reads at a point. -/
abbrev cut2 (i : grid0.Coords) (h : c5 i) (xu : Vec F S131072x128 .bf16) : Vec F S8192x128 .bf16 :=
  VecWindow.window xu (k0_off3 i) S8192x128.size (k0_off3_inb i h)

/-- A memref whose elements are held at contents it reads as `x` is owned at `x`. -/
theorem owns_at (c : Thread nD τ) {sp : Space} {sh : Shape} {e : EltTy} (mr : Memref sig c.2.kind sp sh e) (f : mr.view.ty.Contents (Elt F))
    (x : sh.Idx → Elt F e) (h : mr.view.read (Elt F) f = x) :
    (mr.view.loc c ↦[mr.view.set]{fullShare} f : sProp 𝕄) ⊢ iprop(∃ f, ⌜mr.view.read (Elt F) f = x⌝ ∗ (mr.view.loc c ↦[mr.view.set]{fullShare} f)) := by
  iintro H
  iexists f; isplitr; · ipureintro; exact h
  iexact H

section
variable (c : Dev nD) (i : grid0.Coords)
  (arg2 : Memref sig .tc .vmem S8192x128 .f32) (harg2 : arg2.IsWhole) (arg3 : Memref sig .tc .vmem S8192x2 .bf16) (harg3 : arg3.IsWhole)
  (arg4 : Memref sig .tc .vmem S64x64 .f32) (harg4 : arg4.IsWhole) (arg5 : Memref sig .tc .vmem S128x128 .bf16) (harg5 : arg5.IsWhole)
  (arg6 : Memref sig .tc .vmem S64x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x64 .f32) (harg10 : arg10.IsWhole) (arg11 : Memref sig .tc .vmem S1x64 .f32) (harg11 : arg11.IsWhole)
  (arg12 : Memref sig .tc .vmem S1x64 .f32) (harg12 : arg12.IsWhole) (arg13 : Memref sig .tc .vmem S8192x128 .f32) (harg13 : arg13.IsWhole)
  (arg14 : Memref sig .tc .vmem S131072x128 .bf16) (harg14 : arg14.IsWhole) (arg15 : Memref sig .tc .vmem S128x128 .f32) (harg15 : arg15.IsWhole)
  (arg16 : Memref sig .tc .vmem S1x128 .f32) (harg16 : arg16.IsWhole) (arg17 : Memref sig .tc .vmem S1x2 .f32) (harg17 : arg17.IsWhole)
  (arg18 : Memref sig .tc .vmem S128x128 .f32) (harg18 : arg18.IsWhole) (arg19 : Memref sig .tc .vmem S1x128 .f32) (harg19 : arg19.IsWhole)
  (arg20 : Memref sig .tc .vmem S1x128 .f32) (harg20 : arg20.IsWhole) (arg21 : Memref sig .tc .vmem S1x128 .f32) (harg21 : arg21.IsWhole)
  (arg22 : Memref sig .tc .vmem S1x64 .f32) (harg22 : arg22.IsWhole) (arg23 : Memref sig .tc .vmem S1x64 .f32) (harg23 : arg23.IsWhole)
  (arg24 : Memref sig .tc .vmem S128x128 .bf16) (harg24 : arg24.IsWhole) (arg25 : Memref sig .tc .vmem S2x128 .bf16) (harg25 : arg25.IsWhole)
  (E : Set ℕ) (K : PUnit → sProp (MT nD τ sig Unit (Elt F) ℕ (UR sig nD τ) ℕ))
  (x0 : Vec F S8192x128 .f32) (x1 : Vec F S8192x2 .bf16) (w1 : Vec F S64x64 .f32) (wb : Vec F S128x128 .bf16) (w2 : Vec F S64x64 .f32)
  (b1 g1 e1 b2 g2 e2 : Vec F S1x64 .f32) (o : Vec F S8192x128 .f32)
  (xu : Vec F S131072x128 .bf16) (m1 : Vec F S128x128 .f32) (sx : Vec F S1x128 .f32) (n2 : Vec F S1x2 .f32) (mv : Vec F S128x128 .f32)
  (sv tv nu : Vec F S1x128 .f32) (a1 u0 : Vec F S1x64 .f32) (bd : Vec F S128x128 .bf16) (pd : Vec F S2x128 .bf16)

set_option maxHeartbeats 1600000 in
/-- A point of phase 0 after the first: the block of `x`, masked, is put into `xu`, and the three totals grow by the block's. -/
theorem run_B (h0 : ¬c0 i) (h1 : c1 i) (h2 : ¬c2 i) (h3 : ¬c3 i) (h4 : ¬c4 i) (h5 : ¬c5 i) :
    iprop(owns (c : Thread nD τ) arg2 fullShare x0 ∗ owns (c : Thread nD τ) arg3 fullShare x1 ∗ owns (c : Thread nD τ) arg14 fullShare xu
      ∗ owns (c : Thread nD τ) arg15 fullShare m1 ∗ owns (c : Thread nD τ) arg16 fullShare sx
      ∗ owns (c : Thread nD τ) arg17 fullShare n2
      ∗ (iprop(owns (c : Thread nD τ) arg2 fullShare x0 ∗ owns (c : Thread nD τ) arg3 fullShare x1
          ∗ owns (c : Thread nD τ) arg14 fullShare (VecWindow.put xu (k0_off1 i) S8192x128.size (k0_pay24 x1 x0))
          ∗ owns (c : Thread nD τ) arg15 fullShare (k0_pay7 (k0_pay23 x1 x0) m1)
          ∗ owns (c : Thread nD τ) arg16 fullShare (k0_pay8 (k0_pay23 x1 x0) sx)
          ∗ owns (c : Thread nD τ) arg17 fullShare (k0_pay9 (k0_pay22 x1) n2)) -∗ K ⟨⟩))
    ⊢ wp frame (wpE (defs₀ (F := F)) Variants.none c none) E
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  simp only [k0_part1_eq_skeleton]
  unfold owns
  iintro ⟨⟨%f2, %hf2, H2⟩, ⟨%f3, %hf3, H3⟩, ⟨%f14, %hf14, H14⟩, ⟨%f15, %hf15, H15⟩, ⟨%f16, %hf16, H16⟩, ⟨%f17, %hf17, H17⟩, Hk⟩
  sl_exec (disch := first | sl_exact h0 | sl_exact h1 | sl_exact h2 | sl_exact h3 | sl_exact h4 | sl_exact h5)
  sl_step
  obtain rfl := (View.readAt_full arg2.view f2 inb_S8192x128_S8192x128_0_0).trans hf2
  obtain rfl := (View.readAt_full arg3.view f3 inb_S8192x2_S8192x2_0_0).trans hf3
  obtain rfl := (View.readAt_full arg15.view f15 inb_S128x128_S128x128_0_0).trans hf15
  obtain rfl := (View.readAt_full arg16.view f16 inb_S1x128_S1x128_0_0).trans hf16
  obtain rfl := (View.readAt_full arg17.view f17 inb_S1x2_S1x2_0_0).trans hf17
  obtain rfl := hf14
  iapply Hk
  isplitl [H2]
  · iapply (owns_at c arg2 _ _ hf2) $$ H2
  isplitl [H3]
  · iapply (owns_at c arg3 _ _ hf3) $$ H3
  isplitl [H14]
  · iexists _; isplitr; swap; · iexact H14
    ipureintro; exact View.read_writes_cons_put arg14.view f14 _ _ [] rfl
  isplitl [H15]
  · iexists _; isplitr; swap; · iexact H15
    ipureintro; exact (View.read_writes_full arg15.view f15 _ _ _).trans (rfl)
  isplitl [H16]
  · iexists _; isplitr; swap; · iexact H16
    ipureintro; exact (View.read_writes_full arg16.view f16 _ _ _).trans (rfl)
  iexists _; isplitr; swap; · iexact H17
  ipureintro; exact (View.read_writes_full arg17.view f17 _ _ _).trans (rfl)

set_option maxHeartbeats 1600000 in
/-- The first point: the totals of both phases are set to zero, then the first block is taken in. -/
theorem run_A (h0 : c0 i) (h1 : c1 i) (h2 : ¬c2 i) (h3 : ¬c3 i) (h4 : ¬c4 i) (h5 : ¬c5 i) :
    iprop(owns (c : Thread nD τ) arg2 fullShare x0 ∗ owns (c : Thread nD τ) arg3 fullShare x1 ∗ owns (c : Thread nD τ) arg14 fullShare xu
      ∗ owns (c : Thread nD τ) arg15 fullShare m1 ∗ owns (c : Thread nD τ) arg16 fullShare sx
      ∗ owns (c : Thread nD τ) arg17 fullShare n2 ∗ owns (c : Thread nD τ) arg18 fullShare mv
      ∗ owns (c : Thread nD τ) arg19 fullShare sv
      ∗ (iprop(owns (c : Thread nD τ) arg2 fullShare x0 ∗ owns (c : Thread nD τ) arg3 fullShare x1
          ∗ owns (c : Thread nD τ) arg14 fullShare (VecWindow.put xu (k0_off1 i) S8192x128.size (k0_pay24 x1 x0))
          ∗ owns (c : Thread nD τ) arg15 fullShare (k0_pay7 (k0_pay23 x1 x0) k0_pay2)
          ∗ owns (c : Thread nD τ) arg16 fullShare (k0_pay8 (k0_pay23 x1 x0) k0_pay3)
          ∗ owns (c : Thread nD τ) arg17 fullShare (k0_pay9 (k0_pay22 x1) k0_pay4) ∗ owns (c : Thread nD τ) arg18 fullShare k0_pay5
          ∗ owns (c : Thread nD τ) arg19 fullShare k0_pay6) -∗ K ⟨⟩))
    ⊢ wp frame (wpE (defs₀ (F := F)) Variants.none c none) E
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  simp only [k0_part1_eq_skeleton]
  unfold owns
  iintro ⟨⟨%f2, %hf2, H2⟩, ⟨%f3, %hf3, H3⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  sl_exec (disch := first | sl_exact h0 | sl_exact h1 | sl_exact h2 | sl_exact h3 | sl_exact h4 | sl_exact h5)
  sl_step
  obtain rfl := (View.readAt_full arg2.view f2 inb_S8192x128_S8192x128_0_0).trans hf2
  obtain rfl := (View.readAt_full arg3.view f3 inb_S8192x2_S8192x2_0_0).trans hf3
  obtain rfl := hf14
  iapply Hk
  isplitl [H2]
  · iapply (owns_at c arg2 _ _ hf2) $$ H2
  isplitl [H3]
  · iapply (owns_at c arg3 _ _ hf3) $$ H3
  isplitl [H14]
  · iexists _; isplitr; swap; · iexact H14
    ipureintro; exact View.read_writes_cons_put arg14.view f14 _ _ [] rfl
  isplitl [H15]
  · iexists _; isplitr; swap; · iexact H15
    ipureintro; exact (View.read_writes_full arg15.view f15 _ _ _).trans (congrArg (k0_pay7 _) (View.readCov_full _ _ _ _ _))
  isplitl [H16]
  · iexists _; isplitr; swap; · iexact H16
    ipureintro; exact (View.read_writes_full arg16.view f16 _ _ _).trans (congrArg (k0_pay8 _) (View.readCov_full _ _ _ _ _))
  isplitl [H17]
  · iexists _; isplitr; swap; · iexact H17
    ipureintro; exact (View.read_writes_full arg17.view f17 _ _ _).trans (congrArg (k0_pay9 _) (View.readCov_full _ _ _ _ _))
  isplitl [H18]
  · iexists _; isplitr; swap; · iexact H18
    ipureintro; exact (View.read_writes_full arg18.view f18 _ _ _).trans (rfl)
  iexists _; isplitr; swap; · iexact H19
  ipureintro; exact (View.read_writes_full arg19.view f19 _ _ _).trans (rfl)

set_option maxHeartbeats 1600000 in
/-- A point of phase 1 after its first: the block of `xu` is replaced by its clipped projection, and the two totals grow by its. -/
theorem run_D (h0 : ¬c0 i) (h1 : ¬c1 i) (h2 : ¬c2 i) (h3 : c3 i) (h4 : ¬c4 i) (h5 : ¬c5 i) :
    iprop(owns (c : Thread nD τ) arg5 fullShare wb ∗ owns (c : Thread nD τ) arg14 fullShare xu ∗ owns (c : Thread nD τ) arg18 fullShare mv
      ∗ owns (c : Thread nD τ) arg19 fullShare sv ∗ owns (c : Thread nD τ) arg20 fullShare tv
      ∗ owns (c : Thread nD τ) arg21 fullShare nu
      ∗ (iprop(owns (c : Thread nD τ) arg5 fullShare wb
          ∗ owns (c : Thread nD τ) arg14 fullShare (VecWindow.put xu (k0_off2 i) S8192x128.size (k0_pay17 (cut1 i h3 xu) wb tv nu))
          ∗ owns (c : Thread nD τ) arg18 fullShare (k0_pay18 (cut1 i h3 xu) wb tv nu mv)
          ∗ owns (c : Thread nD τ) arg19 fullShare (k0_pay19 (cut1 i h3 xu) wb tv nu sv) ∗ owns (c : Thread nD τ) arg20 fullShare tv
          ∗ owns (c : Thread nD τ) arg21 fullShare nu) -∗ K ⟨⟩))
    ⊢ wp frame (wpE (defs₀ (F := F)) Variants.none c none) E
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  unfold owns
  iintro ⟨⟨%f5, %hf5, H5⟩, ⟨%f14, %hf14, H14⟩, ⟨%f18, %hf18, H18⟩, ⟨%f19, %hf19, H19⟩, ⟨%f20, %hf20, H20⟩, ⟨%f21, %hf21, H21⟩, Hk⟩
  sl_exec (disch := first | sl_exact h0 | sl_exact h1 | sl_exact h2 | sl_exact h3 | sl_exact h4 | sl_exact h5)
  sl_step
  obtain rfl := (View.readAt_full arg5.view f5 inb_S128x128_S128x128_0_0).trans hf5
  obtain rfl := (View.readAt_full arg18.view f18 inb_S128x128_S128x128_0_0).trans hf18
  obtain rfl := (View.readAt_full arg19.view f19 inb_S1x128_S1x128_0_0).trans hf19
  obtain rfl := (View.readAt_full arg20.view f20 inb_S1x128_S1x128_0_0).trans hf20
  obtain rfl := (View.readAt_full arg21.view f21 inb_S1x128_S1x128_0_0).trans hf21
  obtain rfl := hf14
  iapply Hk
  isplitl [H5]
  · iapply (owns_at c arg5 _ _ hf5) $$ H5
  isplitl [H14]
  · iexists _; isplitr; swap; · iexact H14
    ipureintro; exact View.read_writes_cons_put arg14.view f14 _ _ [] rfl
  isplitl [H18]
  · iexists _; isplitr; swap; · iexact H18
    ipureintro; exact (View.read_writes_full arg18.view f18 _ _ _).trans (rfl)
  isplitl [H19]
  · iexists _; isplitr; swap; · iexact H19
    ipureintro; exact (View.read_writes_full arg19.view f19 _ _ _).trans (rfl)
  isplitl [H20]
  · iapply (owns_at c arg20 _ _ hf20) $$ H20
  iapply (owns_at c arg21 _ _ hf21) $$ H21

set_option maxHeartbeats 1600000 in
/-- The first point of phase 1: the first layer's threshold is computed from the totals of phase 0, then the first block is clipped. -/
theorem run_C (h0 : ¬c0 i) (h1 : ¬c1 i) (h2 : c2 i) (h3 : c3 i) (h4 : ¬c4 i) (h5 : ¬c5 i) :
    iprop(owns (c : Thread nD τ) arg4 fullShare w1 ∗ owns (c : Thread nD τ) arg5 fullShare wb ∗ owns (c : Thread nD τ) arg7 fullShare b1
      ∗ owns (c : Thread nD τ) arg8 fullShare g1 ∗ owns (c : Thread nD τ) arg9 fullShare e1 ∗ owns (c : Thread nD τ) arg14 fullShare xu
      ∗ owns (c : Thread nD τ) arg15 fullShare m1 ∗ owns (c : Thread nD τ) arg16 fullShare sx
      ∗ owns (c : Thread nD τ) arg17 fullShare n2 ∗ owns (c : Thread nD τ) arg18 fullShare mv
      ∗ owns (c : Thread nD τ) arg19 fullShare sv ∗ owns (c : Thread nD τ) arg20 fullShare tv
      ∗ owns (c : Thread nD τ) arg21 fullShare nu ∗ owns (c : Thread nD τ) arg22 fullShare a1
      ∗ owns (c : Thread nD τ) arg23 fullShare u0
      ∗ (iprop(owns (c : Thread nD τ) arg4 fullShare w1 ∗ owns (c : Thread nD τ) arg5 fullShare wb ∗ owns (c : Thread nD τ) arg7 fullShare b1
          ∗ owns (c : Thread nD τ) arg8 fullShare g1 ∗ owns (c : Thread nD τ) arg9 fullShare e1
          ∗ owns (c : Thread nD τ) arg14 fullShare (VecWindow.put xu (k0_off2 i) S8192x128.size (k0_pay17 (cut1 i h3 xu) wb (k0_pay12 (scale1 w1 g1 m1 sx n2) (shift1 w1 b1 sx n2) e1) (k0_pay13 (scale1 w1 g1 m1 sx n2) (shift1 w1 b1 sx n2) e1)))
          ∗ owns (c : Thread nD τ) arg15 fullShare m1 ∗ owns (c : Thread nD τ) arg16 fullShare sx
          ∗ owns (c : Thread nD τ) arg17 fullShare n2
          ∗ owns (c : Thread nD τ) arg18 fullShare (k0_pay18 (cut1 i h3 xu) wb (k0_pay12 (scale1 w1 g1 m1 sx n2) (shift1 w1 b1 sx n2) e1) (k0_pay13 (scale1 w1 g1 m1 sx n2) (shift1 w1 b1 sx n2) e1) mv)
          ∗ owns (c : Thread nD τ) arg19 fullShare (k0_pay19 (cut1 i h3 xu) wb (k0_pay12 (scale1 w1 g1 m1 sx n2) (shift1 w1 b1 sx n2) e1) (k0_pay13 (scale1 w1 g1 m1 sx n2) (shift1 w1 b1 sx n2) e1) sv)
          ∗ owns (c : Thread nD τ) arg20 fullShare (k0_pay12 (scale1 w1 g1 m1 sx n2) (shift1 w1 b1 sx n2) e1)
          ∗ owns (c : Thread nD τ) arg21 fullShare (k0_pay13 (scale1 w1 g1 m1 sx n2) (shift1 w1 b1 sx n2) e1)
          ∗ owns (c : Thread nD τ) arg22 fullShare (k0_pay14 (scale1 w1 g1 m1 sx n2))
          ∗ owns (c : Thread nD τ) arg23 fullShare (k0_pay15 (scale1 w1 g1 m1 sx n2) (shift1 w1 b1 sx n2) e1)) -∗ K ⟨⟩))
    ⊢ wp frame (wpE (defs₀ (F := F)) Variants.none c none) E
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  simp only [k0_part2_eq_skeleton]
  unfold owns
  iintro ⟨⟨%f4, %hf4, H4⟩, ⟨%f5, %hf5, H5⟩, ⟨%f7, %hf7, H7⟩, ⟨%f8, %hf8, H8⟩, ⟨%f9, %hf9, H9⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  sl_exec (disch := first | sl_exact h0 | sl_exact h1 | sl_exact h2 | sl_exact h3 | sl_exact h4 | sl_exact h5)
  sl_step
  obtain rfl := (View.readAt_full arg4.view f4 inb_S64x64_S64x64_0_0).trans hf4
  obtain rfl := (View.readAt_full arg5.view f5 inb_S128x128_S128x128_0_0).trans hf5
  obtain rfl := (View.readAt_full arg7.view f7 inb_S1x64_S1x64_0_0).trans hf7
  obtain rfl := (View.readAt_full arg8.view f8 inb_S1x64_S1x64_0_0).trans hf8
  obtain rfl := (View.readAt_full arg9.view f9 inb_S1x64_S1x64_0_0).trans hf9
  obtain rfl := (View.readAt_full arg15.view f15 inb_S128x128_S128x128_0_0).trans hf15
  obtain rfl := (View.readAt_full arg16.view f16 inb_S1x128_S1x128_0_0).trans hf16
  obtain rfl := (View.readAt_full arg17.view f17 inb_S1x2_S1x2_0_0).trans hf17
  obtain rfl := (View.readAt_full arg18.view f18 inb_S128x128_S128x128_0_0).trans hf18
  obtain rfl := (View.readAt_full arg19.view f19 inb_S1x128_S1x128_0_0).trans hf19
  obtain rfl := hf14
  iapply Hk
  isplitl [H4]
  · iapply (owns_at c arg4 _ _ hf4) $$ H4
  isplitl [H5]
  · iapply (owns_at c arg5 _ _ hf5) $$ H5
  isplitl [H7]
  · iapply (owns_at c arg7 _ _ hf7) $$ H7
  isplitl [H8]
  · iapply (owns_at c arg8 _ _ hf8) $$ H8
  isplitl [H9]
  · iapply (owns_at c arg9 _ _ hf9) $$ H9
  isplitl [H14]
  · iexists _; isplitr; swap; · iexact H14
    ipureintro; exact (View.read_writes_cons_put arg14.view f14 _ _ [] rfl).trans (congrArg (VecWindow.put (arg14.view.read (Elt F) f14) (k0_off2 i) S8192x128.size) (congr (congrArg (k0_pay17 _ _) (View.readCov_full _ _ _ _ _)) (View.readCov_full _ _ _ _ _)))
  isplitl [H15]
  · iapply (owns_at c arg15 _ _ hf15) $$ H15
  isplitl [H16]
  · iapply (owns_at c arg16 _ _ hf16) $$ H16
  isplitl [H17]
  · iapply (owns_at c arg17 _ _ hf17) $$ H17
  isplitl [H18]
  · iexists _; isplitr; swap; · iexact H18
    ipureintro; exact (View.read_writes_full arg18.view f18 _ _ _).trans (congr (congr (congrArg (k0_pay18 _ _) (View.readCov_full _ _ _ _ _)) (View.readCov_full _ _ _ _ _)) rfl)
  isplitl [H19]
  · iexists _; isplitr; swap; · iexact H19
    ipureintro; exact (View.read_writes_full arg19.view f19 _ _ _).trans (congr (congr (congrArg (k0_pay19 _ _) (View.readCov_full _ _ _ _ _)) (View.readCov_full _ _ _ _ _)) rfl)
  isplitl [H20]
  · iexists _; isplitr; swap; · iexact H20
    ipureintro; exact (View.read_writes_full arg20.view f20 _ _ _).trans (rfl)
  isplitl [H21]
  · iexists _; isplitr; swap; · iexact H21
    ipureintro; exact (View.read_writes_full arg21.view f21 _ _ _).trans (rfl)
  isplitl [H22]
  · iexists _; isplitr; swap; · iexact H22
    ipureintro; exact (View.read_writes_full arg22.view f22 _ _ _).trans (rfl)
  iexists _; isplitr; swap; · iexact H23
  ipureintro; exact (View.read_writes_full arg23.view f23 _ _ _).trans (rfl)

set_option maxHeartbeats 1600000 in
/-- A point of phase 2 after its first: the output's block is written. -/
theorem run_F (h0 : ¬c0 i) (h1 : ¬c1 i) (h2 : ¬c2 i) (h3 : ¬c3 i) (h4 : ¬c4 i) (h5 : c5 i) :
    iprop(owns (c : Thread nD τ) arg3 fullShare x1 ∗ owns (c : Thread nD τ) arg13 fullShare o ∗ owns (c : Thread nD τ) arg14 fullShare xu
      ∗ owns (c : Thread nD τ) arg24 fullShare bd ∗ owns (c : Thread nD τ) arg25 fullShare pd
      ∗ (iprop(owns (c : Thread nD τ) arg3 fullShare x1 ∗ owns (c : Thread nD τ) arg13 fullShare (k0_pay21 (cut2 i h5 xu) bd x1 pd)
          ∗ owns (c : Thread nD τ) arg14 fullShare xu ∗ owns (c : Thread nD τ) arg24 fullShare bd
          ∗ owns (c : Thread nD τ) arg25 fullShare pd) -∗ K ⟨⟩))
    ⊢ wp frame (wpE (defs₀ (F := F)) Variants.none c none) E
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  unfold owns
  iintro ⟨⟨%f3, %hf3, H3⟩, ⟨%f13, %hf13, H13⟩, ⟨%f14, %hf14, H14⟩, ⟨%f24, %hf24, H24⟩, ⟨%f25, %hf25, H25⟩, Hk⟩
  sl_exec (disch := first | sl_exact h0 | sl_exact h1 | sl_exact h2 | sl_exact h3 | sl_exact h4 | sl_exact h5)
  sl_step
  obtain rfl := (View.readAt_full arg3.view f3 inb_S8192x2_S8192x2_0_0).trans hf3
  obtain rfl := (View.readAt_full arg24.view f24 inb_S128x128_S128x128_0_0).trans hf24
  obtain rfl := (View.readAt_full arg25.view f25 inb_S2x128_S2x128_0_0).trans hf25
  obtain rfl := hf14
  iapply Hk
  isplitl [H3]
  · iapply (owns_at c arg3 _ _ hf3) $$ H3
  isplitl [H13]
  · iexists _; isplitr; swap; · iexact H13
    ipureintro; exact (View.read_writes_full arg13.view f13 _ _ _).trans (rfl)
  isplitl [H14]
  · iapply (owns_at c arg14 _ _ rfl) $$ H14
  isplitl [H24]
  · iapply (owns_at c arg24 _ _ hf24) $$ H24
  iapply (owns_at c arg25 _ _ hf25) $$ H25

set_option maxHeartbeats 1600000 in
/-- The first point of phase 2: the second layer's weights and added row are computed from the totals of phase 1, then the output's first block is written. -/
theorem run_E (h0 : ¬c0 i) (h1 : ¬c1 i) (h2 : ¬c2 i) (h3 : ¬c3 i) (h4 : c4 i) (h5 : c5 i) :
    iprop(owns (c : Thread nD τ) arg3 fullShare x1 ∗ owns (c : Thread nD τ) arg6 fullShare w2 ∗ owns (c : Thread nD τ) arg10 fullShare b2
      ∗ owns (c : Thread nD τ) arg11 fullShare g2 ∗ owns (c : Thread nD τ) arg12 fullShare e2 ∗ owns (c : Thread nD τ) arg13 fullShare o
      ∗ owns (c : Thread nD τ) arg14 fullShare xu ∗ owns (c : Thread nD τ) arg17 fullShare n2
      ∗ owns (c : Thread nD τ) arg18 fullShare mv ∗ owns (c : Thread nD τ) arg19 fullShare sv
      ∗ owns (c : Thread nD τ) arg22 fullShare a1 ∗ owns (c : Thread nD τ) arg23 fullShare u0
      ∗ owns (c : Thread nD τ) arg24 fullShare bd ∗ owns (c : Thread nD τ) arg25 fullShare pd
      ∗ (iprop(owns (c : Thread nD τ) arg3 fullShare x1 ∗ owns (c : Thread nD τ) arg6 fullShare w2 ∗ owns (c : Thread nD τ) arg10 fullShare b2
          ∗ owns (c : Thread nD τ) arg11 fullShare g2 ∗ owns (c : Thread nD τ) arg12 fullShare e2
          ∗ owns (c : Thread nD τ) arg13 fullShare (k0_pay21 (cut2 i h5 xu) (diag2 w2 g2 n2 mv sv a1) x1 (add2 w2 b2 g2 e2 n2 mv sv a1 u0))
          ∗ owns (c : Thread nD τ) arg14 fullShare xu ∗ owns (c : Thread nD τ) arg17 fullShare n2
          ∗ owns (c : Thread nD τ) arg18 fullShare mv ∗ owns (c : Thread nD τ) arg19 fullShare sv
          ∗ owns (c : Thread nD τ) arg22 fullShare a1 ∗ owns (c : Thread nD τ) arg23 fullShare u0
          ∗ owns (c : Thread nD τ) arg24 fullShare (diag2 w2 g2 n2 mv sv a1)
          ∗ owns (c : Thread nD τ) arg25 fullShare (add2 w2 b2 g2 e2 n2 mv sv a1 u0)) -∗ K ⟨⟩))
    ⊢ wp frame (wpE (defs₀ (F := F)) Variants.none c none) E
        (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__body_eq_skeleton]; unfold cc0__body_skel
  simp only [k0_part3_eq_skeleton, k0_part4_eq_skeleton, k0_part5_eq_skeleton]
  unfold owns
  iintro ⟨⟨%f3, %hf3, H3⟩, ⟨%f6, %hf6, H6⟩, ⟨%f10, %hf10, H10⟩, ⟨%f11, %hf11, H11⟩, ⟨%f12, %hf12, H12⟩, ⟨%f13, %hf13, H13⟩, ⟨%f14, %hf14, H14⟩, ⟨%f17, %hf17, H17⟩, ⟨%f18, %hf18, H18⟩, ⟨%f19, %hf19, H19⟩, ⟨%f22, %hf22, H22⟩, ⟨%f23, %hf23, H23⟩, ⟨%f24, %hf24, H24⟩, ⟨%f25, %hf25, H25⟩, Hk⟩
  sl_exec (disch := first | sl_exact h0 | sl_exact h1 | sl_exact h2 | sl_exact h3 | sl_exact h4 | sl_exact h5)
  sl_step
  obtain rfl := (View.readAt_full arg3.view f3 inb_S8192x2_S8192x2_0_0).trans hf3
  obtain rfl := (View.readAt_full arg6.view f6 inb_S64x64_S64x64_0_0).trans hf6
  obtain rfl := (View.readAt_full arg10.view f10 inb_S1x64_S1x64_0_0).trans hf10
  obtain rfl := (View.readAt_full arg11.view f11 inb_S1x64_S1x64_0_0).trans hf11
  obtain rfl := (View.readAt_full arg12.view f12 inb_S1x64_S1x64_0_0).trans hf12
  obtain rfl := (View.readAt_full arg17.view f17 inb_S1x2_S1x2_0_0).trans hf17
  obtain rfl := (View.readAt_full arg18.view f18 inb_S128x128_S128x128_0_0).trans hf18
  obtain rfl := (View.readAt_full arg19.view f19 inb_S1x128_S1x128_0_0).trans hf19
  obtain rfl := (View.readAt_full arg22.view f22 inb_S1x64_S1x64_0_0).trans hf22
  obtain rfl := (View.readAt_full arg23.view f23 inb_S1x64_S1x64_0_0).trans hf23
  obtain rfl := hf14
  iapply Hk
  isplitl [H3]
  · iapply (owns_at c arg3 _ _ hf3) $$ H3
  isplitl [H6]
  · iapply (owns_at c arg6 _ _ hf6) $$ H6
  isplitl [H10]
  · iapply (owns_at c arg10 _ _ hf10) $$ H10
  isplitl [H11]
  · iapply (owns_at c arg11 _ _ hf11) $$ H11
  isplitl [H12]
  · iapply (owns_at c arg12 _ _ hf12) $$ H12
  isplitl [H13]
  · iexists _; isplitr; swap; · iexact H13
    ipureintro; exact (View.read_writes_full arg13.view f13 _ _ _).trans (congr (congr (congrArg (k0_pay21 _) (View.readCov_full _ _ _ _ _)) rfl) (View.readCov_full _ _ _ _ _))
  isplitl [H14]
  · iapply (owns_at c arg14 _ _ rfl) $$ H14
  isplitl [H17]
  · iapply (owns_at c arg17 _ _ hf17) $$ H17
  isplitl [H18]
  · iapply (owns_at c arg18 _ _ hf18) $$ H18
  isplitl [H19]
  · iapply (owns_at c arg19 _ _ hf19) $$ H19
  isplitl [H22]
  · iapply (owns_at c arg22 _ _ hf22) $$ H22
  isplitl [H23]
  · iapply (owns_at c arg23 _ _ hf23) $$ H23
  isplitl [H24]
  · iexists _; isplitr; swap; · iexact H24
    ipureintro; exact (View.read_writes_full arg24.view f24 _ _ _).trans (rfl)
  iexists _; isplitr; swap; · iexact H25
  ipureintro; exact (View.read_writes_full arg25.view f25 _ _ _).trans (rfl)

end
-- ==== Proof.State.lean ====
module

public import proofs.«01_k».proof.Proof.Body

/-! The twelve scratch arrays between two points of the grid: what they hold, as closed forms in the number of points already run
(`Good`), and that each kind of point takes those forms one point further. -/

@[expose] public section

set_option maxRecDepth 16384

noncomputable section

namespace Cert.KernelIdeal.Hand

open Cert.KernelIdeal Cert.KernelIdeal.Gen
open Idealize.ShloMosaic

variable {F : FTy → Type} [FloatOps F]

/-- The blocks the inputs' windows hold, point by point. -/
structure In (F : FTy → Type) where
  x : ℕ → Vec F S8192x128 .f32
  k : ℕ → Vec F S8192x2 .bf16
  w1 : ℕ → Vec F S64x64 .f32
  wb : ℕ → Vec F S128x128 .bf16
  w2 : ℕ → Vec F S64x64 .f32
  b1 : ℕ → Vec F S1x64 .f32
  g1 : ℕ → Vec F S1x64 .f32
  e1 : ℕ → Vec F S1x64 .f32
  b2 : ℕ → Vec F S1x64 .f32
  g2 : ℕ → Vec F S1x64 .f32
  e2 : ℕ → Vec F S1x64 .f32

/-- The scratch arrays' contents. -/
structure St (F : FTy → Type) where
  xu : Vec F S131072x128 .bf16
  m1 : Vec F S128x128 .f32
  sx : Vec F S1x128 .f32
  n2 : Vec F S1x2 .f32
  mv : Vec F S128x128 .f32
  sv : Vec F S1x128 .f32
  tv : Vec F S1x128 .f32
  nu : Vec F S1x128 .f32
  a1 : Vec F S1x64 .f32
  u0 : Vec F S1x64 .f32
  bd : Vec F S128x128 .bf16
  pd : Vec F S2x128 .bf16

namespace In

variable (a : In F)

/-- The masked block of `x` at point `n` of phase 0. -/
def xm (n : ℕ) : FVec F S8192x128 .bf16 := k0_pay23 (a.k n) (a.x n)
/-- The same as stored in `xu`. -/
def xs (n : ℕ) : FVec F S8192x128 .bf16 := k0_pay24 (a.k n) (a.x n)
/-- The gram total of the first `n` masked blocks. -/
def m1 : ℕ → FVec F S128x128 .f32
  | 0 => k0_pay2
  | n + 1 => k0_pay7 (a.xm n) (m1 n)
/-- The column sums of the first `n` masked blocks. -/
def sx : ℕ → FVec F S1x128 .f32
  | 0 => k0_pay3
  | n + 1 => k0_pay8 (a.xm n) (sx n)
/-- The selected rows counted over the first `n` blocks. -/
def n2 : ℕ → FVec F S1x2 .f32
  | 0 => k0_pay4
  | n + 1 => k0_pay9 (k0_pay22 (a.k n)) (n2 n)
/-- The first layer's scale. -/
def A : FVec F S1x64 .f32 := scale1 (a.w1 16) (a.g1 16) (a.m1 16) (a.sx 16) (a.n2 16)
/-- The first layer's mean less its bias. -/
def S : FVec F S1x64 .f32 := shift1 (a.w1 16) (a.b1 16) (a.sx 16) (a.n2 16)
def tv : FVec F S1x128 .f32 := k0_pay12 a.A a.S (a.e1 16)
def nu : FVec F S1x128 .f32 := k0_pay13 a.A a.S (a.e1 16)
def a1 : FVec F S1x64 .f32 := k0_pay14 a.A
def u0 : FVec F S1x64 .f32 := k0_pay15 a.A a.S (a.e1 16)
/-- The clipped projection of block `n`, as stored in `xu` in phase 1. -/
def v (n : ℕ) : FVec F S8192x128 .bf16 := k0_pay17 (a.xs n) (a.wb (16 + n)) a.tv a.nu
/-- The gram total of the first `n` clipped blocks. -/
def mv : ℕ → FVec F S128x128 .f32
  | 0 => k0_pay5
  | n + 1 => k0_pay18 (a.xs n) (a.wb (16 + n)) a.tv a.nu (mv n)
/-- The column sums of the first `n` clipped blocks. -/
def sv : ℕ → FVec F S1x128 .f32
  | 0 => k0_pay6
  | n + 1 => k0_pay19 (a.xs n) (a.wb (16 + n)) a.tv a.nu (sv n)
/-- The block-diagonal weights of phase 2. -/
def bd : FVec F S128x128 .bf16 := diag2 (a.w2 32) (a.g2 32) (a.n2 16) (a.mv 16) (a.sv 16) a.a1
/-- The added row of phase 2. -/
def pd : FVec F S2x128 .bf16 := add2 (a.w2 32) (a.b2 32) (a.g2 32) (a.e2 32) (a.n2 16) (a.mv 16) (a.sv 16) a.a1 a.u0
/-- The output's block `n`. -/
def o (n : ℕ) : FVec F S8192x128 .f32 := k0_pay21 (a.v n) a.bd (a.k (32 + n)) a.pd

end In

/-- The offsets of block `k` of `xu`. -/
abbrev rows (k : ℕ) : Fin 2 → ℕ := ![k * 8192, 0]

theorem rows_inb (k : Fin 16) : ∀ a, rows k.val a + S8192x128.size a ≤ S131072x128.size a := by
  intro a
  have := k.isLt
  match a with
  | ⟨0, _⟩ => show k.val * 8192 + 8192 ≤ 131072; omega
  | ⟨1, _⟩ => show 0 + 128 ≤ 128; omega

/-- Block `k` of `xu`. -/
abbrev blk (xu : Vec F S131072x128 .bf16) (k : Fin 16) : Vec F S8192x128 .bf16 := VecWindow.window xu (rows k.val) S8192x128.size (rows_inb k)

/-- A block just put is what a read of it gives. -/
theorem blk_put_same (xu : Vec F S131072x128 .bf16) (k : Fin 16) (w : Vec F S8192x128 .bf16) :
    blk (VecWindow.put xu (rows k.val) S8192x128.size w) k = w := VecWindow.window_put_same ..

/-- Another block is not touched by it. -/
theorem blk_put_ne (xu : Vec F S131072x128 .bf16) (j k : Fin 16) (hjk : j ≠ k) (w : Vec F S8192x128 .bf16) :
    blk (VecWindow.put xu (rows k.val) S8192x128.size w) j = blk xu j := by
  refine VecWindow.window_put_of_disjoint _ _ _ _ _ _ _ (0 : Fin 2) ?_
  have : j.val ≠ k.val := fun h => hjk (Fin.ext h)
  show j.val * 8192 + 8192 ≤ k.val * 8192 ∨ k.val * 8192 + 8192 ≤ j.val * 8192
  omega

/-- A window at equal offsets is the same window. -/
theorem window_congr {off off' : Fin 2 → ℕ} (xu : Vec F S131072x128 .bf16) (h : off = off')
    (inb : ∀ a, off a + S8192x128.size a ≤ S131072x128.size a) (inb' : ∀ a, off' a + S8192x128.size a ≤ S131072x128.size a) :
    VecWindow.window xu off S8192x128.size inb = VecWindow.window xu off' S8192x128.size inb' := by subst h; rfl

/-- What the scratch holds before point `t`: nothing known before the first; the totals so far; the blocks stored so far, clipped
    or not; each constant from its point on. -/
structure Good (a : In F) (t : ℕ) (s : St F) : Prop where
  m1 : 1 ≤ t → s.m1 = a.m1 (min t 16)
  sx : 1 ≤ t → s.sx = a.sx (min t 16)
  n2 : 1 ≤ t → s.n2 = a.n2 (min t 16)
  mv : 1 ≤ t → s.mv = a.mv (min (t - 16) 16)
  sv : 1 ≤ t → s.sv = a.sv (min (t - 16) 16)
  xu : ∀ k : Fin 16, k.val < t → blk s.xu k = if k.val < t - 16 then a.v k.val else a.xs k.val
  tv : 17 ≤ t → s.tv = a.tv
  nu : 17 ≤ t → s.nu = a.nu
  a1 : 17 ≤ t → s.a1 = a.a1
  u0 : 17 ≤ t → s.u0 = a.u0
  bd : 33 ≤ t → s.bd = a.bd
  pd : 33 ≤ t → s.pd = a.pd

/-- Before the first point nothing is asked. -/
theorem Good.zero (a : In F) (s : St F) : Good a 0 s := by
  constructor <;> intros <;> omega

/-- A point of phase 0: its block is stored and taken into the totals, which at the first point start from zero. -/
theorem Good.phase0 {a : In F} {t : ℕ} (ht : t < 16) {s s' : St F} (h : Good a t s)
    (hxu : s'.xu = VecWindow.put s.xu (rows t) S8192x128.size (a.xs t))
    (hm1 : s'.m1 = k0_pay7 (a.xm t) (a.m1 t)) (hsx : s'.sx = k0_pay8 (a.xm t) (a.sx t))
    (hn2 : s'.n2 = k0_pay9 (k0_pay22 (a.k t)) (a.n2 t)) (hmv : s'.mv = k0_pay5) (hsv : s'.sv = k0_pay6) : Good a (t + 1) s' := by
  have e : min (t + 1) 16 = t + 1 := by omega
  have e' : min (t + 1 - 16) 16 = 0 := by omega
  constructor
  · intro _; rw [e, hm1]; rfl
  · intro _; rw [e, hsx]; rfl
  · intro _; rw [e, hn2]; rfl
  · intro _; rw [e', hmv]; rfl
  · intro _; rw [e', hsv]; rfl
  · intro k hk
    rw [if_neg (by omega), hxu]
    rcases eq_or_ne k.val t with rfl | hne
    · exact blk_put_same ..
    · have := h.xu k (by omega)
      rw [if_neg (by omega)] at this
      rw [← this]
      exact blk_put_ne s.xu k ⟨t, ht⟩ (fun hh => hne (congrArg Fin.val hh)) _
  all_goals intros; omega

/-- A point of phase 1: its block is clipped and taken into the second totals. -/
theorem Good.phase1 {a : In F} {n : ℕ} (hn : n < 16) {s s' : St F} (h : Good a (16 + n) s)
    (hxu : s'.xu = VecWindow.put s.xu (rows n) S8192x128.size (a.v n))
    (hm1 : s'.m1 = s.m1) (hsx : s'.sx = s.sx) (hn2 : s'.n2 = s.n2)
    (hmv : s'.mv = k0_pay18 (a.xs n) (a.wb (16 + n)) a.tv a.nu s.mv)
    (hsv : s'.sv = k0_pay19 (a.xs n) (a.wb (16 + n)) a.tv a.nu s.sv)
    (htv : s'.tv = a.tv) (hnu : s'.nu = a.nu) (ha1 : s'.a1 = a.a1) (hu0 : s'.u0 = a.u0) : Good a (16 + n + 1) s' := by
  have e : min (16 + n + 1) 16 = min (16 + n) 16 := by omega
  have e' : min (16 + n + 1 - 16) 16 = n + 1 := by omega
  have e'' : min (16 + n - 16) 16 = n := by omega
  constructor
  · intro _; rw [e, hm1]; exact h.m1 (by omega)
  · intro _; rw [e, hsx]; exact h.sx (by omega)
  · intro _; rw [e, hn2]; exact h.n2 (by omega)
  · intro _; rw [e', hmv, h.mv (by omega), e'']; rfl
  · intro _; rw [e', hsv, h.sv (by omega), e'']; rfl
  · intro k hk
    have hk' := k.isLt
    rw [hxu]
    rcases eq_or_ne k.val n with rfl | hne
    · rw [if_pos (by omega)]; exact blk_put_same ..
    · refine (blk_put_ne s.xu k ⟨n, hn⟩ (fun hh => hne (congrArg Fin.val hh)) _).trans ((h.xu k (by omega)).trans ?_)
      by_cases hlt : k.val < n
      · rw [if_pos (by omega), if_pos (by omega)]
      · rw [if_neg (by omega), if_neg (by omega)]
  · exact fun _ => htv
  · exact fun _ => hnu
  · exact fun _ => ha1
  · exact fun _ => hu0
  all_goals intros; omega

/-- A point of phase 2: only the second layer's constants may change. -/
theorem Good.phase2 {a : In F} {n : ℕ} (hn : n < 16) {s : St F} (h : Good a (32 + n) s) {bd : Vec F S128x128 .bf16} {pd : Vec F S2x128 .bf16}
    (hbd : bd = a.bd) (hpd : pd = a.pd) : Good a (32 + n + 1) { s with bd := bd, pd := pd } := by
  have e : min (32 + n + 1) 16 = min (32 + n) 16 := by omega
  have e' : min (32 + n + 1 - 16) 16 = min (32 + n - 16) 16 := by omega
  constructor
  · intro _; rw [e]; exact h.m1 (by omega)
  · intro _; rw [e]; exact h.sx (by omega)
  · intro _; rw [e]; exact h.n2 (by omega)
  · intro _; rw [e']; exact h.mv (by omega)
  · intro _; rw [e']; exact h.sv (by omega)
  · intro k hk
    have hk' := k.isLt
    refine (h.xu k (by omega)).trans ?_
    rw [if_pos (by omega), if_pos (by omega)]
  · exact fun _ => h.tv (by omega)
  · exact fun _ => h.nu (by omega)
  · exact fun _ => h.a1 (by omega)
  · exact fun _ => h.u0 (by omega)
  · exact fun _ => hbd
  · exact fun _ => hpd

/-- Before a point of phase 1 its own block is still the masked block. -/
theorem Good.blk1 {a : In F} {n : ℕ} (hn : n < 16) {s : St F} (h : Good a (16 + n) s) : blk s.xu ⟨n, hn⟩ = a.xs n := by
  rw [h.xu ⟨n, hn⟩ (by show n < _; omega), if_neg (by show ¬ n < _; omega)]

/-- Before a point of phase 2 every block is clipped. -/
theorem Good.blk2 {a : In F} {n : ℕ} (hn : n < 16) {s : St F} (h : Good a (32 + n) s) : blk s.xu ⟨n, hn⟩ = a.v n := by
  rw [h.xu ⟨n, hn⟩ (by show n < _; omega), if_pos (by show n < _; omega)]

end Cert.KernelIdeal.Hand

end
-- ==== Proof.Run.lean ====
module

public import proofs.«01_k».proof.Proof.State
public import proofs.«01_k».proof.Proof.Gen.KernelIdeal.Points
public import Idealize.ShloMosaic.Lib.Quiescent
public import Idealize.ShloMosaic.Lib.Claim

/-! The kernel's launch: the scratch invariant at every point, what each point leaves in the windows, and the run of the whole
program from any memory. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem cond0 : ∀ t : Fin cfg0.N, c0 (grid0.coords t) ↔ t.val = 0 := by decide +kernel
theorem cond1 : ∀ t : Fin cfg0.N, c1 (grid0.coords t) ↔ t.val < 16 := by decide +kernel
theorem cond2 : ∀ t : Fin cfg0.N, c2 (grid0.coords t) ↔ t.val = 16 := by decide +kernel
theorem cond3 : ∀ t : Fin cfg0.N, c3 (grid0.coords t) ↔ 16 ≤ t.val ∧ t.val < 32 := by decide +kernel
theorem cond4 : ∀ t : Fin cfg0.N, c4 (grid0.coords t) ↔ t.val = 32 := by decide +kernel
theorem cond5 : ∀ t : Fin cfg0.N, c5 (grid0.coords t) ↔ 32 ≤ t.val := by decide +kernel
theorem off1 : ∀ t : Fin cfg0.N, k0_off1 (grid0.coords t) = rows (t.val % 16) := by decide +kernel
theorem off2 : ∀ t : Fin cfg0.N, k0_off2 (grid0.coords t) = rows (t.val % 16) := by decide +kernel
theorem off3 : ∀ t : Fin cfg0.N, k0_off3 (grid0.coords t) = rows (t.val % 16) := by decide +kernel
/-- The output's window is idle before phase 2. -/
theorem idle11 : ∀ t : Fin cfg0.N, t.val < 32 → cfg0.idle 11 (grid0.coords t) = true := by decide +kernel
theorem live11 : ∀ t : Fin cfg0.N, 32 ≤ t.val → cfg0.idle 11 (grid0.coords t) = false := by decide +kernel
/-- The output's window is written back at every point of phase 2 and at no other. -/
theorem flush11 : ∀ t : Fin cfg0.N, (cfg0.win 11).flush t = decide (32 ≤ t.val) := by decide +kernel

/-- Point `n` of the grid. -/
def pt (n : ℕ) : Fin cfg0.N := ⟨n % 48, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-! ## The proof data -/

/-- The inputs' blocks, point by point. -/
def ins (c : Dev nD) : In F where
  x n := iblk m c 0 (pt n)
  k n := iblk m c 1 (pt n)
  w1 n := iblk m c 2 (pt n)
  wb n := iblk m c 3 (pt n)
  w2 n := iblk m c 4 (pt n)
  b1 n := iblk m c 5 (pt n)
  g1 n := iblk m c 6 (pt n)
  e1 n := iblk m c 7 (pt n)
  b2 n := iblk m c 8 (pt n)
  g2 n := iblk m c 9 (pt n)
  e2 n := iblk m c 10 (pt n)

section
variable (c : Dev nD) (t : Fin cfg0.N)
theorem at_x : iblk m c 0 t = (ins m c).x t.val := by show _ = iblk m c 0 (pt t.val); rw [pt_val]
theorem at_k : iblk m c 1 t = (ins m c).k t.val := by show _ = iblk m c 1 (pt t.val); rw [pt_val]
theorem at_w1 : iblk m c 2 t = (ins m c).w1 t.val := by show _ = iblk m c 2 (pt t.val); rw [pt_val]
theorem at_wb : iblk m c 3 t = (ins m c).wb t.val := by show _ = iblk m c 3 (pt t.val); rw [pt_val]
theorem at_w2 : iblk m c 4 t = (ins m c).w2 t.val := by show _ = iblk m c 4 (pt t.val); rw [pt_val]
theorem at_b1 : iblk m c 5 t = (ins m c).b1 t.val := by show _ = iblk m c 5 (pt t.val); rw [pt_val]
theorem at_g1 : iblk m c 6 t = (ins m c).g1 t.val := by show _ = iblk m c 6 (pt t.val); rw [pt_val]
theorem at_e1 : iblk m c 7 t = (ins m c).e1 t.val := by show _ = iblk m c 7 (pt t.val); rw [pt_val]
theorem at_b2 : iblk m c 8 t = (ins m c).b2 t.val := by show _ = iblk m c 8 (pt t.val); rw [pt_val]
theorem at_g2 : iblk m c 9 t = (ins m c).g2 t.val := by show _ = iblk m c 9 (pt t.val); rw [pt_val]
theorem at_e2 : iblk m c 10 t = (ins m c).e2 t.val := by show _ = iblk m c 10 (pt t.val); rw [pt_val]
end

/-- The scratch arrays held at the contents `s`. -/
def scratch (c : Dev nD) (s : St F) : sProp 𝕄 :=
  iprop(owns (c : Thread nD τ) (Memref.whole cc0_scratch0) fullShare s.xu ∗ owns (c : Thread nD τ) (Memref.whole cc0_scratch1) fullShare s.m1
    ∗ owns (c : Thread nD τ) (Memref.whole cc0_scratch2) fullShare s.sx ∗ owns (c : Thread nD τ) (Memref.whole cc0_scratch3) fullShare s.n2
    ∗ owns (c : Thread nD τ) (Memref.whole cc0_scratch4) fullShare s.mv ∗ owns (c : Thread nD τ) (Memref.whole cc0_scratch5) fullShare s.sv
    ∗ owns (c : Thread nD τ) (Memref.whole cc0_scratch6) fullShare s.tv ∗ owns (c : Thread nD τ) (Memref.whole cc0_scratch7) fullShare s.nu
    ∗ owns (c : Thread nD τ) (Memref.whole cc0_scratch8) fullShare s.a1 ∗ owns (c : Thread nD τ) (Memref.whole cc0_scratch9) fullShare s.u0
    ∗ owns (c : Thread nD τ) (Memref.whole cc0_scratch10) fullShare s.bd ∗ owns (c : Thread nD τ) (Memref.whole cc0_scratch11) fullShare s.pd)

/-- The invariant before point `n`: the scratch at contents as `Good` says, and the generator's register. -/
def Inv (c : Dev nD) (n : ℕ) : sProp 𝕄 :=
  iprop((∃ s, ⌜Good (ins m c) n s⌝ ∗ scratch c s) ∗ (∃ r, prngReg c r))

/-- The proof data: the inputs' windows keep their blocks, the output's holds its block in phase 2. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (ins m c).o (t.val - 32)
  Φ t := Inv m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = Inv m c t.val := by
  dsimp only [dats]

section
variable (c : Dev nD) (t : Fin cfg0.N)

theorem after11 : (dats m 0 c).after 11 t = (ins m c).o (t.val - 32) := by dsimp only [dats]

theorem before0 (d) : (dats m 0 c).before 0 t d = iblk m c 0 t := before0_0_of m _ (A_eq m c 0) (fun _ => by dsimp only [dats]) t d
theorem before1 (d) : (dats m 0 c).before 1 t d = iblk m c 1 t := before0_1_of m _ (A_eq m c 1) (fun _ => by dsimp only [dats]) t d
theorem before2 (d) : (dats m 0 c).before 2 t d = iblk m c 2 t := before0_2_of m _ (A_eq m c 2) (fun _ => by dsimp only [dats]) t d
theorem before3 (d) : (dats m 0 c).before 3 t d = iblk m c 3 t := before0_3_of m _ (A_eq m c 3) (fun _ => by dsimp only [dats]) t d
theorem before4 (d) : (dats m 0 c).before 4 t d = iblk m c 4 t := before0_4_of m _ (A_eq m c 4) (fun _ => by dsimp only [dats]) t d
theorem before5 (d) : (dats m 0 c).before 5 t d = iblk m c 5 t := before0_5_of m _ (A_eq m c 5) (fun _ => by dsimp only [dats]) t d
theorem before6 (d) : (dats m 0 c).before 6 t d = iblk m c 6 t := before0_6_of m _ (A_eq m c 6) (fun _ => by dsimp only [dats]) t d
theorem before7 (d) : (dats m 0 c).before 7 t d = iblk m c 7 t := before0_7_of m _ (A_eq m c 7) (fun _ => by dsimp only [dats]) t d
theorem before8 (d) : (dats m 0 c).before 8 t d = iblk m c 8 t := before0_8_of m _ (A_eq m c 8) (fun _ => by dsimp only [dats]) t d
theorem before9 (d) : (dats m 0 c).before 9 t d = iblk m c 9 t := before0_9_of m _ (A_eq m c 9) (fun _ => by dsimp only [dats]) t d
theorem before10 (d) : (dats m 0 c).before 10 t d = iblk m c 10 t := before0_10_of m _ (A_eq m c 10) (fun _ => by dsimp only [dats]) t d

/-- The inputs' staging buffers at their blocks. -/
def inputs : sProp 𝕄 :=
  iprop(owns (c : Thread nD τ) (st0_0 t) fullShare ((ins m c).x t.val) ∗ owns (c : Thread nD τ) (st0_1 t) fullShare ((ins m c).k t.val)
    ∗ owns (c : Thread nD τ) (st0_2 t) fullShare ((ins m c).w1 t.val) ∗ owns (c : Thread nD τ) (st0_3 t) fullShare ((ins m c).wb t.val)
    ∗ owns (c : Thread nD τ) (st0_4 t) fullShare ((ins m c).w2 t.val) ∗ owns (c : Thread nD τ) (st0_5 t) fullShare ((ins m c).b1 t.val)
    ∗ owns (c : Thread nD τ) (st0_6 t) fullShare ((ins m c).g1 t.val) ∗ owns (c : Thread nD τ) (st0_7 t) fullShare ((ins m c).e1 t.val)
    ∗ owns (c : Thread nD τ) (st0_8 t) fullShare ((ins m c).b2 t.val) ∗ owns (c : Thread nD τ) (st0_9 t) fullShare ((ins m c).g2 t.val)
    ∗ owns (c : Thread nD τ) (st0_10 t) fullShare ((ins m c).e2 t.val))

/-- What the body leaves of the output's staging buffer: its block in phase 2, untouched before. -/
def outAfter (o : Vec F S8192x128 .f32) : Vec F S8192x128 .f32 := if 32 ≤ t.val then (ins m c).o (t.val - 32) else o

set_option maxHeartbeats 1600000 in
/-- The body at any point, from scratch contents `Good` for it, leaves contents `Good` for the next. -/
theorem body_step (s : St F) (hs : Good (ins m c) t.val s) (o : Vec F S8192x128 .f32) (K : PUnit → sProp 𝕄) :
    iprop(scratch c s ∗ inputs m c t ∗ owns (c : Thread nD τ) (st0_11 t) fullShare o
      ∗ (∀ s', ⌜Good (ins m c) (t.val + 1) s'⌝ -∗ iprop(scratch c s' ∗ inputs m c t
          ∗ owns (c : Thread nD τ) (st0_11 t) fullShare (outAfter m c t o)) -∗ K ⟨⟩))
    ⊢ wp frame (wpE (defs₀ (F := F)) Variants.none c none) Set.univ (bodyAt0 t) K := by
  have hN : t.val < 48 := lt_of_lt_of_eq t.isLt (show cfg0.N = 48 from N_0)
  unfold scratch inputs
  iintro ⟨⟨S0, S1, S2, S3, S4, S5, S6, S7, S8, S9, S10, S11⟩, ⟨I0, I1, I2, I3, I4, I5, I6, I7, I8, I9, I10⟩, O, Hk⟩
  have h0 := cond0 t; have h1 := cond1 t; have h2 := cond2 t; have h3 := cond3 t; have h4 := cond4 t; have h5 := cond5 t
  have hne : ∀ {P : Prop} {q : Prop}, (P ↔ q) → ¬q → ¬P := fun h hq hp => hq (h.mp hp)
  rcases lt_or_ge t.val 16 with hp | hp
  · have ho : outAfter m c t o = o := if_neg (by omega)
    have hm : t.val % 16 = t.val := Nat.mod_eq_of_lt hp
    rw [ho]
    by_cases hz : t.val = 0
    · iapply (run_A c (grid0.coords t) (h0 := h0.mpr hz) (h1 := h1.mpr hp) (h2 := hne h2 (by omega)) (h3 := hne h3 (by omega))
        (h4 := hne h4 (by omega)) (h5 := hne h5 (by omega)))
      iframe
      iintro ⟨A2, A3, A14, A15, A16, A17, A18, A19⟩
      iapply Hk $$ %{ s with
        xu := VecWindow.put s.xu (k0_off1 (grid0.coords t)) S8192x128.size (k0_pay24 ((ins m c).k t.val) ((ins m c).x t.val))
        m1 := k0_pay7 (k0_pay23 ((ins m c).k t.val) ((ins m c).x t.val)) k0_pay2
        sx := k0_pay8 (k0_pay23 ((ins m c).k t.val) ((ins m c).x t.val)) k0_pay3
        n2 := k0_pay9 (k0_pay22 ((ins m c).k t.val)) k0_pay4
        mv := k0_pay5
        sv := k0_pay6 } [] [-]
      · ipureintro
        refine Good.phase0 hp hs ?_ ?_ ?_ ?_ rfl rfl
        · rw [off1 t, hm]; rfl
        all_goals rw [hz]; rfl
      · iframe
    · iapply (run_B c (grid0.coords t) (h0 := hne h0 (by omega)) (h1 := h1.mpr (by omega)) (h2 := hne h2 (by omega)) (h3 := hne h3 (by omega)) (h4 := hne h4 (by omega)) (h5 := hne h5 (by omega)))
      iframe
      iintro ⟨A2, A3, A14, A15, A16, A17⟩
      iapply Hk $$ %{ s with
        xu := VecWindow.put s.xu (k0_off1 (grid0.coords t)) S8192x128.size (k0_pay24 ((ins m c).k t.val) ((ins m c).x t.val))
        m1 := k0_pay7 (k0_pay23 ((ins m c).k t.val) ((ins m c).x t.val)) s.m1
        sx := k0_pay8 (k0_pay23 ((ins m c).k t.val) ((ins m c).x t.val)) s.sx
        n2 := k0_pay9 (k0_pay22 ((ins m c).k t.val)) s.n2 } [] [-]
      · ipureintro
        have hmin : min t.val 16 = t.val := by omega
        have hmin' : min (t.val - 16) 16 = 0 := by omega
        have e1 := hs.m1 (by omega); have e2 := hs.sx (by omega); have e3 := hs.n2 (by omega)
        have e4 := hs.mv (by omega); have e5 := hs.sv (by omega)
        rw [hmin] at e1 e2 e3; rw [hmin'] at e4 e5
        refine Good.phase0 hp hs ?_ ?_ ?_ ?_ e4 e5
        · rw [off1 t, hm]; rfl
        · rw [← e1]; rfl
        · rw [← e2]; rfl
        · rw [← e3]
      · iframe
  · rcases lt_or_ge t.val 32 with hq | hq
    · have ho : outAfter m c t o = o := if_neg (by omega)
      rw [ho]
      obtain ⟨n, hn⟩ : ∃ n, t.val = 16 + n := ⟨t.val - 16, by omega⟩
      have hlt : n < 16 := by omega
      have hm : t.val % 16 = n := by omega
      have hs' : Good (ins m c) (16 + n) s := hn ▸ hs
      have hcut (h : c3 (grid0.coords t)) : cut1 (grid0.coords t) h s.xu = (ins m c).xs n :=
        (window_congr s.xu ((off2 t).trans (congrArg rows hm)) _ (rows_inb ⟨n, hlt⟩)).trans (hs'.blk1 hlt)
      by_cases hz : n = 0
      · iapply (run_C c (grid0.coords t) (h0 := hne h0 (by omega)) (h1 := hne h1 (by omega)) (h2 := h2.mpr (by omega)) (h3 := h3.mpr (by omega)) (h4 := hne h4 (by omega)) (h5 := hne h5 (by omega)))
        iframe
        iintro ⟨A4, A5, A7, A8, A9, A14, A15, A16, A17, A18, A19, A20, A21, A22, A23⟩
        have e1 := hs'.m1 (by omega); have e2 := hs'.sx (by omega); have e3 := hs'.n2 (by omega)
        rw [show min (16 + n) 16 = 16 by omega] at e1 e2 e3
        rw [hcut, off2 t, hm, e1, e2, e3]
        iapply Hk $$ %{ s with
          xu := VecWindow.put s.xu (rows n) S8192x128.size (k0_pay17 ((ins m c).xs n) ((ins m c).wb t.val)
            (k0_pay12 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val))
            (k0_pay13 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val)))
          m1 := (ins m c).m1 16
          sx := (ins m c).sx 16
          n2 := (ins m c).n2 16
          mv := k0_pay18 ((ins m c).xs n) ((ins m c).wb t.val)
            (k0_pay12 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val))
            (k0_pay13 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val)) s.mv
          sv := k0_pay19 ((ins m c).xs n) ((ins m c).wb t.val)
            (k0_pay12 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val))
            (k0_pay13 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val)) s.sv
          tv := k0_pay12 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val)
          nu := k0_pay13 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val)
          a1 := k0_pay14 (scale1 ((ins m c).w1 t.val) ((ins m c).g1 t.val) ((ins m c).m1 16) ((ins m c).sx 16) ((ins m c).n2 16))
          u0 := k0_pay15 (scale1 ((ins m c).w1 t.val) ((ins m c).g1 t.val) ((ins m c).m1 16) ((ins m c).sx 16) ((ins m c).n2 16))
              (shift1 ((ins m c).w1 t.val) ((ins m c).b1 t.val) ((ins m c).sx 16) ((ins m c).n2 16)) ((ins m c).e1 t.val) } [] [-]
        · ipureintro
          have h16 : t.val = 16 := by omega
          subst hz
          rw [hn]
          refine Good.phase1 hlt hs' ?_ e1.symm e2.symm e3.symm ?_ ?_ ?_ ?_ ?_ ?_ <;> rfl
        · iframe
      · iapply (run_D c (grid0.coords t) (h0 := hne h0 (by omega)) (h1 := hne h1 (by omega)) (h2 := hne h2 (by omega)) (h3 := h3.mpr (by omega)) (h4 := hne h4 (by omega)) (h5 := hne h5 (by omega)))
        iframe
        iintro ⟨A5, A14, A18, A19, A20, A21⟩
        have e1 := hs'.tv (by omega); have e2 := hs'.nu (by omega)
        rw [hcut, off2 t, hm]
        iapply Hk $$ %{ s with
          xu := VecWindow.put s.xu (rows n) S8192x128.size (k0_pay17 ((ins m c).xs n) ((ins m c).wb t.val) s.tv s.nu)
          mv := k0_pay18 ((ins m c).xs n) ((ins m c).wb t.val) s.tv s.nu s.mv
          sv := k0_pay19 ((ins m c).xs n) ((ins m c).wb t.val) s.tv s.nu s.sv } [] [-]
        · ipureintro
          rw [hn]
          refine Good.phase1 hlt hs' ?_ rfl rfl rfl ?_ ?_ e1 e2 (hs'.a1 (by omega)) (hs'.u0 (by omega))
          all_goals (dsimp only; rw [e1, e2]; try rfl)
        · iframe
    · have ho : outAfter m c t o = (ins m c).o (t.val - 32) := if_pos hq
      rw [ho]
      obtain ⟨n, hn⟩ : ∃ n, t.val = 32 + n := ⟨t.val - 32, by omega⟩
      have hlt : n < 16 := by omega
      have hm : t.val % 16 = n := by omega
      have hs' : Good (ins m c) (32 + n) s := hn ▸ hs
      have hcut (h : c5 (grid0.coords t)) : cut2 (grid0.coords t) h s.xu = (ins m c).v n :=
        (window_congr s.xu ((off3 t).trans (congrArg rows hm)) _ (rows_inb ⟨n, hlt⟩)).trans (hs'.blk2 hlt)
      have hsub : t.val - 32 = n := by omega
      by_cases hz : n = 0
      · iapply (run_E c (grid0.coords t) (h0 := hne h0 (by omega)) (h1 := hne h1 (by omega)) (h2 := hne h2 (by omega)) (h3 := hne h3 (by omega)) (h4 := h4.mpr (by omega)) (h5 := h5.mpr (by omega)))
        iframe
        iintro ⟨A3, A6, A10, A11, A12, A13, A14, A17, A18, A19, A22, A23, A24, A25⟩
        have e3 := hs'.n2 (by omega); have e4 := hs'.mv (by omega); have e5 := hs'.sv (by omega)
        have e6 := hs'.a1 (by omega); have e7 := hs'.u0 (by omega)
        rw [show min (32 + n) 16 = 16 by omega] at e3
        rw [show min (32 + n - 16) 16 = 16 by omega] at e4 e5
        have hbd : diag2 ((ins m c).w2 t.val) ((ins m c).g2 t.val) s.n2 s.mv s.sv s.a1 = (ins m c).bd := by
          rw [e3, e4, e5, e6, hn, hz]; rfl
        have hpd : add2 ((ins m c).w2 t.val) ((ins m c).b2 t.val) ((ins m c).g2 t.val) ((ins m c).e2 t.val) s.n2 s.mv s.sv s.a1 s.u0 = (ins m c).pd := by
          rw [e3, e4, e5, e6, e7, hn, hz]; rfl
        rw [hcut, hbd, hpd]
        have hout : k0_pay21 ((ins m c).v n) (ins m c).bd ((ins m c).k t.val) (ins m c).pd = (ins m c).o (t.val - 32) := by
          rw [hsub, hn]; rfl
        rw [hout]
        iapply Hk $$ %{ s with bd := (ins m c).bd, pd := (ins m c).pd } [] [-]
        · ipureintro
          rw [hn]
          exact Good.phase2 hlt hs' rfl rfl
        · iframe
      · iapply (run_F c (grid0.coords t) (h0 := hne h0 (by omega)) (h1 := hne h1 (by omega)) (h2 := hne h2 (by omega)) (h3 := hne h3 (by omega)) (h4 := hne h4 (by omega)) (h5 := h5.mpr (by omega)))
        iframe
        iintro ⟨A3, A13, A14, A24, A25⟩
        have hbd := hs'.bd (by omega); have hpd := hs'.pd (by omega)
        have hout : k0_pay21 (cut2 (grid0.coords t) (h5.mpr (by omega)) s.xu) s.bd ((ins m c).k t.val) s.pd = (ins m c).o (t.val - 32) := by
          rw [hcut, hbd, hpd, hsub, hn]; rfl
        rw [hout]
        iapply Hk $$ %s [] [-]
        · ipureintro
          rw [hn]
          exact Good.phase2 hlt hs' hbd hpd
        · iframe

/-! ## The obligation and the launch -/

theorem body_at : defs₀ (F := F) .tc cfg0.body (cfg0.bodyArgs t (cfg0.slots t)) = bodyAt0 t := by
  unfold defs₀; rw [Defs.onTc_tc]

/-- What the body is handed at a point, in the windows' own words. -/
theorem pre_inputs :
    iprop((∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d))
      ∗ (∃ d, owns (c : Thread nD τ) (st0_8 t) fullShare ((dats m 0 c).before 8 t d)) ∗ (∃ d, owns (c : Thread nD τ) (st0_9 t) fullShare ((dats m 0 c).before 9 t d))
      ∗ (∃ d, owns (c : Thread nD τ) (st0_10 t) fullShare ((dats m 0 c).before 10 t d)) ∗ (∃ d, owns (c : Thread nD τ) (st0_11 t) fullShare ((dats m 0 c).before 11 t d)))
    ⊢ iprop(inputs m c t ∗ ∃ d, owns (c : Thread nD τ) (st0_11 t) fullShare ((dats m 0 c).before 11 t d)) := by
  simp only [before0, before1, before2, before3, before4, before5, before6, before7, before8, before9, before10]
  unfold inputs
  rw [at_x, at_k, at_w1, at_wb, at_w2, at_b1, at_g1, at_e1, at_b2, at_g2, at_e2]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iframe

/-- An input's window is left at its block. -/
theorem leaves_in (w : Fin cfg0.W) (hw : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from hw]

/-- What the body must leave at a point, from what `body_step` says of it. -/
theorem post_inputs (d : (cfg0.win 11).block.Idx → Elt F (cfg0.win 11).elt) :
    iprop(inputs m c t ∗ owns (c : Thread nD τ) (st0_11 t) fullShare (outAfter m c t ((dats m 0 c).before 11 t d)))
    ⊢ iprop((dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t
      ∗ (dats m 0 c).leavesExact 8 t ∗ (dats m 0 c).leavesExact 9 t ∗ (dats m 0 c).leavesExact 10 t ∗ (dats m 0 c).leavesExact 11 t) := by
  rw [leaves_in m c t 0 rfl, leaves_in m c t 1 rfl, leaves_in m c t 2 rfl, leaves_in m c t 3 rfl, leaves_in m c t 4 rfl, leaves_in m c t 5 rfl,
    leaves_in m c t 6 rfl, leaves_in m c t 7 rfl, leaves_in m c t 8 rfl, leaves_in m c t 9 rfl, leaves_in m c t 10 rfl]
  unfold inputs
  rw [← at_x, ← at_k, ← at_w1, ← at_wb, ← at_w2, ← at_b1, ← at_g1, ← at_e1, ← at_b2, ← at_g2, ← at_e2]
  have hlast : (owns (c : Thread nD τ) (st0_11 t) fullShare (outAfter m c t ((dats m 0 c).before 11 t d)) : sProp 𝕄) ⊢ (dats m 0 c).leavesExact 11 t := by
    rcases lt_or_ge t.val 32 with h | h
    · rw [Dat.leavesExact_idle (dats m 0 c) 11 t (idle11 t h) ((flush11 t).trans (decide_eq_false (by omega))), outAfter, if_neg (by omega)]
      iintro H
      iexists d; iexact H
    · rw [leaves_in m c t 11 (live11 t h), outAfter, if_pos h, after11]
  iintro ⟨⟨H0, H1, H2, H3, H4, H5, H6, H7, H8, H9, H10⟩, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply hlast $$ H

/-- The body at a point as the launch asks for it. -/
theorem sound_body :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d))
      ∗ (∃ d, owns (c : Thread nD τ) (st0_8 t) fullShare ((dats m 0 c).before 8 t d)) ∗ (∃ d, owns (c : Thread nD τ) (st0_9 t) fullShare ((dats m 0 c).before 9 t d))
      ∗ (∃ d, owns (c : Thread nD τ) (st0_10 t) fullShare ((dats m 0 c).before 10 t d)) ∗ (∃ d, owns (c : Thread nD τ) (st0_11 t) fullShare ((dats m 0 c).before 11 t d)))
    ⊢ wp frame (wpE (defs₀ (F := F)) Variants.none c none) Set.univ (bodyAt0 t) (fun _ =>
      iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t
      ∗ (dats m 0 c).leavesExact 8 t ∗ (dats m 0 c).leavesExact 9 t ∗ (dats m 0 c).leavesExact 10 t ∗ (dats m 0 c).leavesExact 11 t)) := by
  rw [show (dats m 0 c).owesAt () t.succ = (dats m 0 c).owesAt () t.castSucc from rfl, Phi_eq, Phi_eq, Fin.val_succ, Fin.val_castSucc]
  unfold Inv
  iintro ⟨⟨⟨%s, %hs, Hs⟩, Hg⟩, Ho, H⟩
  ihave H := (pre_inputs m c t) $$ H
  icases H with ⟨Hi, ⟨%d, H11⟩⟩
  iapply (body_step m c t s hs ((dats m 0 c).before 11 t d))
  isplitl [Hs]; · iexact Hs
  isplitl [Hi]; · iexact Hi
  isplitl [H11]; · iexact H11
  iintro %s' %hs' ⟨Hs, Hi, H11⟩
  isplitl [Hs Hg]
  · isplitr [Hg]
    · iexists s'; isplitr; · ipureintro; exact hs'
      iexact Hs
    · iexact Hg
  isplitl [Ho]; · iexact Ho
  iapply (post_inputs m c t d)
  isplitl [Hi]; · iexact Hi
  iexact H11

end

theorem body_obligation (c : Dev nD) : BodyObligation (dats (F := F) m 0 c) (defs₀ (F := F)) Variants.none () Set.univ := fun t => by
  rw [bigSep_W0, bigSep_W0, body_at]
  exact triple_restated (sound_body m c t) rfl .rfl fun _ => .rfl

/-- The launch hands over the scratch arrays at any contents, and takes them back so. -/
theorem any_scratch (c : Dev nD) :
    (Pipeline.ΦA spec0 c : sProp 𝕄) = iprop(((∃ d, owns (c : Thread nD τ) (Memref.whole cc0_scratch0) fullShare d)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d) ∗ (∃ d, owns (c : Thread nD τ) (Memref.whole cc0_scratch4) fullShare d)
      ∗ (∃ d, owns (c : Thread nD τ) (Memref.whole cc0_scratch5) fullShare d) ∗ (∃ d, owns (c : Thread nD τ) (Memref.whole cc0_scratch6) fullShare d)
      ∗ (∃ d, owns (c : Thread nD τ) (Memref.whole cc0_scratch7) fullShare d) ∗ (∃ d, owns (c : Thread nD τ) (Memref.whole cc0_scratch8) fullShare d)
      ∗ (∃ d, owns (c : Thread nD τ) (Memref.whole cc0_scratch9) fullShare d) ∗ (∃ d, owns (c : Thread nD τ) (Memref.whole cc0_scratch10) fullShare d)
      ∗ (∃ d, owns (c : Thread nD τ) (Memref.whole cc0_scratch11) fullShare d)) ∗ (∃ r, prngReg c r)) := by
  unfold Pipeline.ΦA
  rw [scopedRest0_eq]
  simp only [owns_whole]
  try rfl

theorem hin (c : Dev nD) : Pipeline.ΦA spec0 c ⊢ (dats m 0 c).Φ 0 := by
  rw [Phi_eq, any_scratch]
  unfold Inv scratch
  iintro ⟨⟨⟨%s0, H0⟩, ⟨%s1, H1⟩, ⟨%s2, H2⟩, ⟨%s3, H3⟩, ⟨%s4, H4⟩, ⟨%s5, H5⟩, ⟨%s6, H6⟩, ⟨%s7, H7⟩, ⟨%s8, H8⟩, ⟨%s9, H9⟩, ⟨%s10, H10⟩, ⟨%s11, H11⟩⟩, Hg⟩
  isplitr [Hg]
  · iexists ⟨s0, s1, s2, s3, s4, s5, s6, s7, s8, s9, s10, s11⟩
    isplitr; · ipureintro; exact Good.zero _ _
    iframe
  · iexact Hg

theorem hout (c : Dev nD) : (dats m 0 c).Φ (Fin.last cfg0.N) ⊢ Pipeline.ΦA spec0 c := by
  rw [Phi_eq, any_scratch]
  unfold Inv scratch
  iintro ⟨⟨%s, %hs, H0, H1, H2, H3, H4, H5, H6, H7, H8, H9, H10, H11⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · iexact Hg

set_option backward.isDefEq.respectTransparency.types false in
/-- The whole program from any memory: every window's array ends at what the proof data say, every other array at what the lines
    before and after the kernel leave in it, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program leaves its arguments as they were and its counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Equation.lean ====
module

public import Mathlib.Analysis.SpecialFunctions.Pow.Real
public import Mathlib.Algebra.BigOperators.Field
public import Mathlib.Algebra.BigOperators.Fin
public import Mathlib.Algebra.BigOperators.Intervals
public import Mathlib.Tactic.Ring
public import Mathlib.Tactic.Linarith
public import Mathlib.Tactic.FieldSimp
public import Mathlib.Tactic.Positivity

@[expose] public section

/-!
The equation over the real numbers: two masked batch normalisations, each after a linear map and with a
clip between them, computed from totals of the masked rows (`Par.out`) and computed as written
(`Par.rout`), are the same.
-/

noncomputable section

namespace Cert.Bn

open Finset

/-- The number of rows. -/
abbrev rows : ℕ := 262144

/-- The numbers the problem is about: the rows `X` with the unselected ones zeroed, the selection `M` as
zeros and ones, the two layers' parameters and the small number added to a variance. -/
structure Par where
  X : ℕ → Fin 64 → ℝ
  M : ℕ → ℝ
  W1 : Fin 64 → Fin 64 → ℝ
  b1 : Fin 64 → ℝ
  g1 : Fin 64 → ℝ
  e1 : Fin 64 → ℝ
  W2 : Fin 64 → Fin 64 → ℝ
  b2 : Fin 64 → ℝ
  g2 : Fin 64 → ℝ
  e2 : Fin 64 → ℝ
  eps : ℝ

namespace Par

variable (p : Par)

/-- The number of selected rows. -/
def cnt : ℝ := ∑ i ∈ range rows, p.M i
/-- A column's total. -/
def col (F : ℕ → Fin 64 → ℝ) (j : Fin 64) : ℝ := ∑ i ∈ range rows, F i j
/-- Two columns' product summed over the rows. -/
def gram (F : ℕ → Fin 64 → ℝ) (j l : Fin 64) : ℝ := ∑ i ∈ range rows, F i j * F i l
/-- The variance of `F·w` from the totals of `F`. -/
def form (F : ℕ → Fin 64 → ℝ) (w : Fin 64 → ℝ) : ℝ :=
  ∑ j, w j * ∑ l, (gram F j l / p.cnt - col F j / p.cnt * (col F l / p.cnt)) * w l

/-- The first layer's scale. -/
def A (o : Fin 64) : ℝ := p.g1 o / √(p.form p.X (p.W1 o) + p.eps)
/-- The first layer's mean less its bias. -/
def S (o : Fin 64) : ℝ := ∑ j, col p.X j / p.cnt * p.W1 o j + p.b1 o - p.b1 o
/-- Where the clip cuts. -/
def t (o : Fin 64) : ℝ := p.S o - p.e1 o / p.A o
/-- What a zero row contributes past the clip. -/
def u (o : Fin 64) : ℝ := max (0 - p.t o) 0
/-- The clipped projection less `u`. -/
def v (i : ℕ) (o : Fin 64) : ℝ := max (∑ j, p.X i j * p.W1 o j - (p.t o + p.u o)) (0 - p.u o)
/-- The second layer's weights with the first layer's scale in them. -/
def w2 (q o : Fin 64) : ℝ := p.W2 q o * p.A o
/-- The second layer's scale. -/
def s2 (q : Fin 64) : ℝ := p.g2 q / √(p.form p.v (p.w2 q) + p.eps)
/-- The second layer's mean. -/
def mean2 (q : Fin 64) : ℝ := ∑ o, (col p.v o / p.cnt + p.u o) * p.w2 q o + p.b2 q
/-- The row added to every selected row of the output. -/
def d (q : Fin 64) : ℝ := ∑ o, p.u o * (p.w2 q o * p.s2 q) + p.b2 q * p.s2 q + (p.e2 q - p.mean2 q * p.s2 q)
/-- The output from the totals. -/
def out (i : ℕ) (q : Fin 64) : ℝ := ∑ o, p.v i o * (p.w2 q o * p.s2 q) + p.M i * p.d q

/-- The mean over the selected rows. -/
def rmean (F : ℕ → Fin 64 → ℝ) (o : Fin 64) : ℝ := (∑ i ∈ range rows, F i o * p.M i) / p.cnt
/-- The variance over the selected rows. -/
def rvar (F : ℕ → Fin 64 → ℝ) (o : Fin 64) : ℝ :=
  (∑ i ∈ range rows, (F i o - p.rmean F o) * (F i o - p.rmean F o) * p.M i) / p.cnt
/-- Masked batch normalisation. -/
def bn (F : ℕ → Fin 64 → ℝ) (g e : Fin 64 → ℝ) (i : ℕ) (o : Fin 64) : ℝ :=
  (F i o - p.rmean F o) / √(p.rvar F o + p.eps) * g o + e o
/-- The first linear map. -/
def h (i : ℕ) (o : Fin 64) : ℝ := ∑ j, p.X i j * p.W1 o j + p.b1 o
/-- The clipped first layer. -/
def r (i : ℕ) (o : Fin 64) : ℝ := max (p.bn p.h p.g1 p.e1 i o) 0
/-- The second linear map. -/
def h2 (i : ℕ) (q : Fin 64) : ℝ := ∑ o, p.r i o * p.W2 q o + p.b2 q
/-- The output as written. -/
def rout (i : ℕ) (q : Fin 64) : ℝ := p.bn p.h2 p.g2 p.e2 i q * p.M i

/-- What a column without a scale holds in every row after the clip. -/
def c (o : Fin 64) : ℝ := if p.A o = 0 then max (p.e1 o) 0 else 0

/-- What is asked of the numbers: `M` holds zeros and ones, the rows it leaves out are zero, the first layer's
scale is not negative and the small number is positive. -/
structure Ok : Prop where
  mask : ∀ i, p.M i = 0 ∨ p.M i = 1
  zero : ∀ i j, p.M i = 0 → p.X i j = 0
  g1 : ∀ o, 0 ≤ p.g1 o
  eps : 0 < p.eps

variable {p}

/-- The mean of a linear map of masked rows plus a constant, from the columns' totals. -/
theorem mean_lin (hp : p.Ok) (hc : 0 < p.cnt) {F H : ℕ → Fin 64 → ℝ} {w : Fin 64 → ℝ} {β : ℝ} {o : Fin 64}
    (hF : ∀ i j, p.M i = 0 → F i j = 0) (hH : ∀ i, p.M i = 1 → H i o = ∑ j, F i j * w j + β) :
    p.rmean H o = ∑ j, col F j / p.cnt * w j + β := by
  have h1 : ∀ i, H i o * p.M i = ∑ j, F i j * w j + β * p.M i := by
    intro i
    rcases hp.mask i with hm | hm
    · simp [hm, hF i _ hm]
    · simp [hm, hH i hm]
  have hc' := hc.ne'
  have h2 : ∑ j, col F j / p.cnt * w j = (∑ i ∈ range rows, ∑ j, F i j * w j) / p.cnt := by
    rw [sum_comm, sum_div]
    refine sum_congr rfl fun j _ => ?_
    rw [col, ← sum_mul]; ring
  rw [rmean, h2, sum_congr rfl fun i _ => h1 i, sum_add_distrib, ← mul_sum, add_div]
  congr 1
  rw [← Par.cnt, mul_div_assoc, div_self hc', mul_one]

/-- The variance of a linear map of masked rows plus a constant, from the totals. -/
theorem var_lin (hp : p.Ok) (hc : 0 < p.cnt) {F H : ℕ → Fin 64 → ℝ} {w : Fin 64 → ℝ} {β : ℝ} {o : Fin 64}
    (hF : ∀ i j, p.M i = 0 → F i j = 0) (hH : ∀ i, p.M i = 1 → H i o = ∑ j, F i j * w j + β) :
    p.rvar H o = p.form F w := by
  have hc' := hc.ne'
  set L : ℕ → ℝ := fun i => ∑ j, F i j * w j with hL
  set μ : ℝ := ∑ j, col F j / p.cnt * w j with hμ
  have hsum : ∑ i ∈ range rows, L i = μ * p.cnt := by
    rw [hμ, hL, sum_comm, sum_mul]
    refine sum_congr rfl fun j _ => ?_
    rw [col, ← sum_mul]; field_simp
  have h1 : ∀ i, (H i o - p.rmean H o) * (H i o - p.rmean H o) * p.M i = L i * L i - 2 * μ * L i + μ * μ * p.M i := by
    intro i
    rw [mean_lin hp hc hF hH]
    rcases hp.mask i with hm | hm
    · simp [hL, hm, hF i _ hm]
    · rw [hH i hm, hm]; ring
  have h2 : ∑ i ∈ range rows, L i * L i = ∑ j, ∑ l, w j * w l * gram F j l := by
    have : ∀ i, L i * L i = ∑ j, ∑ l, w j * w l * (F i j * F i l) := by
      intro i
      rw [hL, sum_mul_sum]
      exact sum_congr rfl fun j _ => sum_congr rfl fun l _ => by ring
    rw [sum_congr rfl fun i _ => this i, sum_comm]
    refine sum_congr rfl fun j _ => ?_
    rw [sum_comm]
    exact sum_congr rfl fun l _ => by rw [gram, mul_sum]
  have h3 : μ * μ = ∑ j, ∑ l, w j * w l * (col F j / p.cnt * (col F l / p.cnt)) := by
    rw [hμ, sum_mul_sum]
    exact sum_congr rfl fun j _ => sum_congr rfl fun l _ => by ring
  have h4 : p.form F w = (∑ i ∈ range rows, L i * L i) / p.cnt - μ * μ := by
    rw [form, h2, h3, sum_div, ← sum_sub_distrib]
    refine sum_congr rfl fun j _ => ?_
    rw [sum_div, ← sum_sub_distrib, mul_sum]
    exact sum_congr rfl fun l _ => by ring
  rw [rvar, sum_congr rfl fun i _ => h1 i, sum_add_distrib, sum_sub_distrib, ← mul_sum, ← mul_sum, hsum, h4, ← Par.cnt]
  field_simp
  ring

/-- As many rows as none or more are selected. -/
theorem cnt_nonneg (hp : p.Ok) : 0 ≤ p.cnt :=
  sum_nonneg fun i _ => by rcases hp.mask i with hm | hm <;> simp [hm]

/-- A selected row is counted. -/
theorem cnt_pos (hp : p.Ok) {i : ℕ} (hi : i < rows) (hm : p.M i = 1) : 0 < p.cnt :=
  sum_pos' (fun j _ => by rcases hp.mask j with h | h <;> simp [h]) ⟨i, mem_range.2 hi, by rw [hm]; exact one_pos⟩

/-- A variance is not negative. -/
theorem rvar_nonneg (hp : p.Ok) (F : ℕ → Fin 64 → ℝ) (o : Fin 64) : 0 ≤ p.rvar F o := by
  refine div_nonneg (sum_nonneg fun i _ => mul_nonneg (mul_self_nonneg _) ?_) (cnt_nonneg hp)
  rcases hp.mask i with hm | hm <;> simp [hm]

/-- The form is not negative, being a variance. -/
theorem form_nonneg (hp : p.Ok) {F : ℕ → Fin 64 → ℝ} (w : Fin 64 → ℝ) (hF : ∀ i j, p.M i = 0 → F i j = 0) :
    0 ≤ p.form F w := by
  rcases (cnt_nonneg hp).eq_or_lt with hc | hc
  · simp [form, ← hc]
  · have := var_lin hp hc (H := fun i _ => ∑ j, F i j * w j) (w := w) (β := 0) (o := 0) hF (fun i _ => by simp)
    exact this ▸ rvar_nonneg hp _ _

/-- The clipped projection of an unselected row is zero. -/
theorem v_zero (hp : p.Ok) (i : ℕ) (o : Fin 64) (hm : p.M i = 0) : p.v i o = 0 := by
  simp only [v, hp.zero i _ hm, zero_mul, sum_const_zero, u]
  rcases le_total (p.t o) 0 with ht | ht
  · rw [max_eq_left (by linarith : (0 : ℝ) ≤ 0 - p.t o)]; simp [ht]
  · rw [max_eq_right (by linarith : 0 - p.t o ≤ 0)]; simp [ht]

theorem pos1 (hp : p.Ok) (o : Fin 64) : 0 < p.form p.X (p.W1 o) + p.eps :=
  add_pos_of_nonneg_of_pos (form_nonneg hp _ hp.zero) hp.eps
theorem pos2 (hp : p.Ok) (q : Fin 64) : 0 < p.form p.v (p.w2 q) + p.eps :=
  add_pos_of_nonneg_of_pos (form_nonneg hp _ (v_zero hp)) hp.eps
theorem A_nonneg (hp : p.Ok) (o : Fin 64) : 0 ≤ p.A o := div_nonneg (hp.g1 o) (Real.sqrt_nonneg _)
theorem g1_zero (hp : p.Ok) {o : Fin 64} (h : p.A o = 0) : p.g1 o = 0 :=
  (div_eq_zero_iff.1 h).resolve_right (Real.sqrt_pos.2 (pos1 hp o)).ne'

/-- The clipped first layer at a row is the scale times the clipped projection; without a scale it is the same in every row. -/
theorem r_eq (hp : p.Ok) (hc : 0 < p.cnt) (i : ℕ) (o : Fin 64) : p.r i o = p.A o * (p.v i o + p.u o) + p.c o := by
  by_cases h0 : p.A o = 0
  · rw [r, bn, g1_zero hp h0, c, if_pos h0, h0]; simp
  rw [c, if_neg h0, add_zero]
  have hm : p.rmean p.h o = p.S o + p.b1 o := by
    rw [mean_lin hp hc (F := p.X) (w := p.W1 o) (β := p.b1 o) hp.zero fun i _ => rfl, S]; ring
  have hv : p.rvar p.h o = p.form p.X (p.W1 o) := var_lin hp hc (β := p.b1 o) hp.zero fun i _ => rfl
  have hb : p.bn p.h p.g1 p.e1 i o = p.A o * (∑ j, p.X i j * p.W1 o j - p.t o) := by
    have : p.A o * p.t o = p.A o * p.S o - p.e1 o := by rw [t]; field_simp
    rw [bn, hm, hv, mul_sub, this, h, A]; ring
  have hvu : p.v i o + p.u o = max (∑ j, p.X i j * p.W1 o j - p.t o) 0 := by
    rw [v, max_add]; congr 1 <;> ring
  rw [r, hb, hvu, mul_max_of_nonneg _ _ (A_nonneg hp o), mul_zero]

/-- The second linear map in terms of the clipped projection. -/
theorem h2_eq (hp : p.Ok) (hc : 0 < p.cnt) (i : ℕ) (q : Fin 64) :
    p.h2 i q = ∑ o, p.v i o * p.w2 q o + (∑ o, p.u o * p.w2 q o + (∑ o, p.c o * p.W2 q o + p.b2 q)) := by
  rw [h2, ← add_assoc, ← add_assoc, ← sum_add_distrib, ← sum_add_distrib]
  congr 1
  exact sum_congr rfl fun o _ => by rw [r_eq hp hc, w2]; ring

/-- The two computations agree. -/
theorem out_eq (hp : p.Ok) (hc : 0 < p.cnt) (i : ℕ) (q : Fin 64) : p.out i q = p.rout i q := by
  have hm := mean_lin hp hc (H := p.h2) (o := q) (v_zero hp) fun i _ => h2_eq hp hc i q
  have hv := var_lin hp hc (H := p.h2) (o := q) (v_zero hp) fun i _ => h2_eq hp hc i q
  have e1 : ∑ o, p.v i o * (p.w2 q o * p.s2 q) = (∑ o, p.v i o * p.w2 q o) * p.s2 q := by
    rw [sum_mul]; exact sum_congr rfl fun o _ => by ring
  have e2 : ∑ o, p.u o * (p.w2 q o * p.s2 q) = (∑ o, p.u o * p.w2 q o) * p.s2 q := by
    rw [sum_mul]; exact sum_congr rfl fun o _ => by ring
  have e3 : p.mean2 q = ∑ o, col p.v o / p.cnt * p.w2 q o + (∑ o, p.u o * p.w2 q o + p.b2 q) := by
    rw [mean2, ← add_assoc, ← sum_add_distrib]; congr 1; exact sum_congr rfl fun o _ => by ring
  rw [out, d, rout, bn, hm, hv, h2_eq hp hc, e1, e2, e3]
  rcases hp.mask i with h0 | h0
  · simp [h0, v_zero hp i _ h0]
  · rw [h0, s2]; ring

end Par

end Cert.Bn

end
-- ==== Proof.Infinite.lean ====
module

public import Idealize.ShloMosaic.Lib.Pointwise
public import Mathlib.Data.EReal.Inv

@[expose] public section

/-!
Extended reals that are numbers and those that are infinite: an infinite term makes a sum infinite, a quotient by an
infinite value is zero, and a factor that is zero removes whatever it multiplies.
-/

noncomputable section

namespace Cert.Bn

open Idealize.ShloMosaic
open Finset

/-- An extended real that is a number. -/
def Num (x : EReal) : Prop := ∃ r : ℝ, x = (r : EReal)

/-- An extended real that is not. -/
def Inf (x : EReal) : Prop := x = ⊤ ∨ x = ⊥

theorem Num.eq {x : EReal} (h : Num x) : x = (x.toReal : EReal) := by
  obtain ⟨r, rfl⟩ := h; rfl

theorem inf_of_not {x : EReal} (h : ¬ Num x) : Inf x := by
  induction x with
  | bot => exact .inr rfl
  | top => exact .inl rfl
  | coe r => exact absurd ⟨r, rfl⟩ h

theorem Inf.add_left {x : EReal} (h : Inf x) (y : EReal) : Inf (x + y) := by
  rcases h with rfl | rfl
  · induction y with
    | bot => exact .inr (by simp)
    | top => exact .inl (by simp)
    | coe r => exact .inl (by simp)
  · exact .inr (by simp)
theorem Inf.add_right {y : EReal} (h : Inf y) (x : EReal) : Inf (x + y) := add_comm y x ▸ h.add_left x
theorem Inf.neg {x : EReal} (h : Inf x) : Inf (-x) := by
  rcases h with rfl | rfl
  · exact .inr (by simp)
  · exact .inl (by simp)
theorem Inf.sub_left {x : EReal} (h : Inf x) (y : EReal) : Inf (x - y) := by
  rw [sub_eq_add_neg]; exact h.add_left _
theorem Inf.sub_right {y : EReal} (h : Inf y) (x : EReal) : Inf (x - y) := by
  rw [sub_eq_add_neg]; exact h.neg.add_right _
/-- A sum with an infinite term is infinite. -/
theorem Inf.sum {ι : Type*} {s : Finset ι} {f : ι → EReal} {i : ι} (hi : i ∈ s) (h : Inf (f i)) : Inf (∑ j ∈ s, f j) := by
  classical
  rw [← add_sum_erase s f hi]; exact h.add_left _
theorem Inf.mul {x y : EReal} (h : Inf x) (hy : y ≠ 0) : Inf (x * y) := by
  rcases lt_or_gt_of_ne hy with hy | hy <;> rcases h with rfl | rfl
  · exact .inr (EReal.top_mul_of_neg hy)
  · exact .inl (EReal.bot_mul_of_neg hy)
  · exact .inl (EReal.top_mul_of_pos hy)
  · exact .inr (EReal.bot_mul_of_pos hy)
theorem Inf.mul_left {x y : EReal} (h : Inf y) (hx : x ≠ 0) : Inf (x * y) := mul_comm y x ▸ h.mul hx
theorem Inf.ne_zero {x : EReal} (h : Inf x) : x ≠ 0 := by
  rcases h with rfl | rfl <;> simp
theorem Inf.mul_self {x : EReal} (h : Inf x) : Inf (x * x) := h.mul h.ne_zero
/-- An infinite value over a number is infinite. -/
theorem Inf.div {x : EReal} (h : Inf x) (r : ℝ) : Inf (Ideal.div x (r : EReal)) := by
  by_cases hr : r = 0
  · subst hr
    rw [Ideal.div, EReal.coe_zero, if_pos rfl]
    split
    · exact .inl rfl
    · exact .inr rfl
  · rw [Ideal.div_coe hr]
    exact h.mul (EReal.coe_ne_zero.2 (one_div_ne_zero hr))
/-- Any value over zero is infinite. -/
theorem inf_div_zero (x : EReal) : Inf (Ideal.div x ((0 : ℝ) : EReal)) := by
  rw [Ideal.div, EReal.coe_zero, if_pos rfl]
  split
  · exact .inl rfl
  · exact .inr rfl
theorem Inf.sqrt {x : EReal} (h : Inf x) : Inf (Ideal.sqrt x) := by
  rcases h with rfl | rfl
  · exact .inl rfl
  · exact .inr rfl
/-- A quotient by an infinite value is zero. -/
theorem div_inf (x : EReal) {y : EReal} (h : Inf y) : Ideal.div x y = 0 := by
  rw [Ideal.div, if_neg h.ne_zero]
  rcases h with rfl | rfl <;> simp

/-- A sum of numbers read among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, EReal.coe_add, ih]

/-- A sum of products with numbers, of values known where the number is not zero. -/
theorem sum_mul_num {ι : Type*} (s : Finset ι) {f : ι → EReal} {g w : ι → ℝ} (h : ∀ j, w j ≠ 0 → f j = (g j : EReal)) :
    ∑ j ∈ s, f j * (w j : EReal) = ((∑ j ∈ s, g j * w j : ℝ) : EReal) := by
  rw [← coe_sum]
  refine sum_congr rfl fun j _ => ?_
  by_cases hw : w j = 0
  · rw [hw]; simp
  · rw [h j hw, EReal.coe_mul]
theorem sum_num_mul {ι : Type*} (s : Finset ι) {f : ι → EReal} {g w : ι → ℝ} (h : ∀ j, w j ≠ 0 → f j = (g j : EReal)) :
    ∑ j ∈ s, (w j : EReal) * f j = ((∑ j ∈ s, w j * g j : ℝ) : EReal) := by
  simp only [mul_comm (w _ : EReal), mul_comm (w _ : ℝ)]
  exact sum_mul_num s h

end Cert.Bn

end
-- ==== Proof.Inputs.lean ====
module

public import proofs.«01_k».proof.Proof.Equation
public import proofs.«01_k».proof.Proof.Infinite

@[expose] public section

/-!
The problem's arrays as numbers: sums, quotients, roots and maxima of numbers read among the extended reals, the
small constant added to a variance, and what the precondition says of the arguments.
-/

noncomputable section

namespace Cert.Bn

open Idealize.ShloMosaic
open Finset

/-- A quotient of numbers. -/
theorem div_real (x : ℝ) {y : ℝ} (h : y ≠ 0) : Ideal.div (x : EReal) (y : EReal) = ((x / y : ℝ) : EReal) := by
  rw [Ideal.div_coe h, ← EReal.coe_mul, mul_one_div]

/-- The root of a number that is not negative. -/
theorem sqrt_real {x : ℝ} (h : 0 ≤ x) : Ideal.sqrt (x : EReal) = ((√x : ℝ) : EReal) := by
  rw [Ideal.sqrt_coe, if_neg (not_lt.2 h)]

/-- The larger of two numbers. -/
theorem max_real (x y : ℝ) : max (x : EReal) (y : EReal) = ((max x y : ℝ) : EReal) :=
  (Monotone.map_max (fun _ _ h => EReal.coe_le_coe_iff.2 h)).symm

/-- The small number added to a variance. -/
def eps : ℝ := (Ideal.ofBits .f32 0x3727C5AC#32 : EReal).toReal

theorem eps_aux : ∃ r : ℝ, 0 < r ∧ Ideal.ofBits .f32 0x3727C5AC#32 = (r : EReal) := by
  refine ⟨_, ?_, by simp [Ideal.ofBits, Ideal.ieee, -EReal.coe_mul]; rfl⟩
  norm_num
theorem eps_bits : Ideal.ofBits .f32 0x3727C5AC#32 = (eps : EReal) := by
  obtain ⟨r, -, h⟩ := eps_aux
  rw [eps, h, EReal.toReal_coe]
theorem eps_pos : 0 < eps := by
  obtain ⟨r, h0, h⟩ := eps_aux
  rw [eps, h, EReal.toReal_coe]; exact h0

/-- The problem's arguments at one device. -/
structure Args where
  x : FVec Ideal ⟨2, ![262144, 64]⟩ .f32
  k : IVec ⟨1, ![262144]⟩ 1
  W1 : FVec Ideal ⟨2, ![64, 64]⟩ .f32
  b1 : FVec Ideal ⟨1, ![64]⟩ .f32
  g1 : FVec Ideal ⟨1, ![64]⟩ .f32
  e1 : FVec Ideal ⟨1, ![64]⟩ .f32
  W2 : FVec Ideal ⟨2, ![64, 64]⟩ .f32
  b2 : FVec Ideal ⟨1, ![64]⟩ .f32
  g2 : FVec Ideal ⟨1, ![64]⟩ .f32
  e2 : FVec Ideal ⟨1, ![64]⟩ .f32

namespace Args

variable (a : Args)

/-- Whether row `i` is selected. -/
def sel (i : ℕ) : Prop := ∃ h : i < 262144, a.k (ix1 ⟨i, h⟩) = 1#1

/-- A column whose selected entries are numbers, some row being selected. -/
def good (j : Fin 64) : Prop := (∃ i, a.k (ix1 i) = 1#1) ∧ ∀ i, a.k (ix1 i) = 1#1 → Num (a.x (ix2 i j))

/-- Whether output `o` of the first linear map sees a column that is not. -/
def sees (o : Fin 64) : Prop := ∃ j, ¬ a.good j ∧ (a.W1 (ix2 o j)).toReal ≠ 0

/-- The entries times the selection. -/
def masked (i : ℕ) (j : Fin 64) : EReal :=
  if h : i < 262144 then a.x (ix2 ⟨i, h⟩ j) * (((a.k (ix1 ⟨i, h⟩)).toNat : ℝ) : EReal) else 0

open Classical in
/-- The numbers the arguments hold: the unselected rows and the columns that are not good zeroed, no scale where
the first linear map sees one of these, and the last shift, which is only added at the end, left out. -/
def par : Par where
  X i j := if h : a.sel i ∧ a.good j then (a.x (ix2 ⟨i, h.1.1⟩ j)).toReal else 0
  M i := if a.sel i then 1 else 0
  W1 o j := (a.W1 (ix2 o j)).toReal
  b1 o := (a.b1 (ix1 o)).toReal
  g1 o := if a.sees o then 0 else (a.g1 (ix1 o)).toReal
  e1 o := (a.e1 (ix1 o)).toReal
  W2 o j := (a.W2 (ix2 o j)).toReal
  b2 o := (a.b2 (ix1 o)).toReal
  g2 o := (a.g2 (ix1 o)).toReal
  e2 _ := 0
  eps := Bn.eps

/-- What the precondition says: the parameters are numbers, but for the last shift, of which nothing is asked, and
the first layer's scale is not negative. -/
structure Fine : Prop where
  W1 : ∀ o j, Num (a.W1 (ix2 o j))
  b1 : ∀ o, Num (a.b1 (ix1 o))
  g1 : ∀ o, Num (a.g1 (ix1 o))
  e1 : ∀ o, Num (a.e1 (ix1 o))
  W2 : ∀ o j, Num (a.W2 (ix2 o j))
  b2 : ∀ o, Num (a.b2 (ix1 o))
  g2 : ∀ o, Num (a.g2 (ix1 o))
  nonneg : ∀ o, 0 ≤ a.g1 (ix1 o)

variable {a}

theorem W1_eq (ha : a.Fine) (o j : Fin 64) : a.W1 (ix2 o j) = (a.par.W1 o j : EReal) := (ha.W1 o j).eq
theorem b1_eq (ha : a.Fine) (o : Fin 64) : a.b1 (ix1 o) = (a.par.b1 o : EReal) := (ha.b1 o).eq
theorem g1_eq (ha : a.Fine) {o : Fin 64} (h : ¬ a.sees o) : a.g1 (ix1 o) = (a.par.g1 o : EReal) := by
  simp only [par, if_neg h]; exact (ha.g1 o).eq
theorem g1_sees {o : Fin 64} (h : a.sees o) : a.par.g1 o = 0 := if_pos h
theorem e1_eq (ha : a.Fine) (o : Fin 64) : a.e1 (ix1 o) = (a.par.e1 o : EReal) := (ha.e1 o).eq
theorem W2_eq (ha : a.Fine) (o j : Fin 64) : a.W2 (ix2 o j) = (a.par.W2 o j : EReal) := (ha.W2 o j).eq
theorem b2_eq (ha : a.Fine) (o : Fin 64) : a.b2 (ix1 o) = (a.par.b2 o : EReal) := (ha.b2 o).eq
theorem g2_eq (ha : a.Fine) (o : Fin 64) : a.g2 (ix1 o) = (a.par.g2 o : EReal) := (ha.g2 o).eq

/-- The selection bit as a number. -/
theorem M_eq (i : Fin 262144) : ((a.k (ix1 i)).toNat : ℝ) = a.par.M i := by
  have hs : a.sel i ↔ a.k (ix1 i) = 1#1 := ⟨fun ⟨_, h⟩ => h, fun h => ⟨i.2, h⟩⟩
  simp only [par, hs]
  rcases BitVec.eq_zero_or_eq_one (a.k (ix1 i)) with h | h <;> simp [h]

theorem M_one {i : Fin 262144} (h : a.k (ix1 i) = 1#1) : a.par.M i = 1 := by rw [← M_eq, h]; simp
theorem M_zero {i : Fin 262144} (h : a.k (ix1 i) = 0#1) : a.par.M i = 0 := by rw [← M_eq, h]; simp

/-- A selected row's entry in a good column. -/
theorem x_eq {i : Fin 262144} {j : Fin 64} (hj : a.good j) (h : a.k (ix1 i) = 1#1) : a.x (ix2 i j) = (a.par.X i j : EReal) := by
  have hs : a.sel i ∧ a.good j := ⟨⟨i.2, h⟩, hj⟩
  simp only [par, dif_pos hs]
  exact (hj.2 i h).eq

/-- A good column's entries times the selection. -/
theorem masked_good {j : Fin 64} (hj : a.good j) (i : ℕ) : a.masked i j = (a.par.X i j : EReal) := by
  by_cases hi : i < 262144
  · rw [masked, dif_pos hi]
    rcases BitVec.eq_zero_or_eq_one (a.k (ix1 ⟨i, hi⟩)) with h | h
    · have hs : ¬ a.sel i := fun ⟨_, h'⟩ => by rw [h] at h'; exact absurd h' (by decide)
      simp [par, h, hs]
    · rw [h, x_eq (i := ⟨i, hi⟩) hj h]; simp
  · have hs : ¬ a.sel i := fun ⟨h, _⟩ => hi h
    simp [masked, hi, par, hs]

/-- The numbers are as the equation asks. -/
theorem ok (ha : a.Fine) : a.par.Ok where
  mask i := by by_cases h : a.sel i <;> simp [par, h]
  zero i j h := by by_cases hs : a.sel i <;> simp [par, hs] at h ⊢
  g1 o := by
    by_cases h : a.sees o
    · rw [g1_sees h]
    · have := ha.nonneg o
      rw [g1_eq ha h] at this
      exact EReal.coe_nonneg.1 this
  eps := eps_pos

/-- A selected row is counted. -/
theorem cnt_pos (ha : a.Fine) {i : Fin 262144} (h : a.k (ix1 i) = 1#1) : 0 < a.par.cnt := Par.cnt_pos (ok ha) i.2 (M_one h)
theorem cnt_good (ha : a.Fine) {j : Fin 64} (hj : a.good j) : 0 < a.par.cnt := by
  obtain ⟨i, hi⟩ := hj.1
  exact cnt_pos ha hi

/-- A column that is not good has an infinite selected entry, if some row is selected. -/
theorem bad_entry {j : Fin 64} (hj : ¬ a.good j) (hs : ∃ i, a.k (ix1 i) = 1#1) :
    ∃ i : Fin 262144, a.k (ix1 i) = 1#1 ∧ Inf (a.x (ix2 i j)) := by
  by_contra hn
  refine hj ⟨hs, fun i hi => ?_⟩
  by_contra hx
  exact hn ⟨i, hi, inf_of_not hx⟩

/-- In a column that is not good an entry times the selection is infinite, or no row is selected. -/
theorem masked_bad (ha : a.Fine) {j : Fin 64} (hj : ¬ a.good j) : a.par.cnt = 0 ∨ ∃ i < 262144, Inf (a.masked i j) := by
  by_cases hs : ∃ i, a.k (ix1 i) = 1#1
  · obtain ⟨i, hi, hx⟩ := bad_entry hj hs
    refine .inr ⟨i, i.2, ?_⟩
    rw [masked, dif_pos i.2, hi]
    simpa using hx
  · refine .inl (Finset.sum_eq_zero fun i _ => ?_)
    have : ¬ a.sel i := fun ⟨h, h'⟩ => hs ⟨_, h'⟩
    simp [par, this]

/-- What an output of the first linear map that sees only good columns has a weight for is good. -/
theorem good_of {o j : Fin 64} (h : ¬ a.sees o) (hw : a.par.W1 o j ≠ 0) : a.good j := by
  by_contra hj
  exact h ⟨j, hj, hw⟩

end Args

end Cert.Bn

end
-- ==== Proof.Lanes.lean ====
module

public import proofs.«01_k».proof.Proof.Inputs

@[expose] public section

/-!
Packed rows: a packed row of 128 lanes holds two rows of 64 columns, and a block holds 8192 packed rows. Sums over
the rows as sums over blocks, packed rows and halves.
-/

noncomputable section

namespace Cert.Bn

open Finset

theorem lt_lo (j : Fin 64) : j.val < 128 := by have := j.2; omega
theorem lt_hi (j : Fin 64) : 64 + j.val < 128 := by have := j.2; omega

/-- The column a lane holds. -/
def ln (c : Fin 128) : Fin 64 := ⟨c.val % 64, Nat.mod_lt _ (by decide)⟩
/-- The half a lane lies in. -/
def hf (c : Fin 128) : Fin 2 := ⟨c.val / 64, by omega⟩
/-- The row that lane `c` of packed row `r` of block `n` belongs to. -/
def row (n : ℕ) (r : Fin 8192) (h : ℕ) : ℕ := 2 * (8192 * n + r.val) + h
/-- An array of rows, packed. -/
def Z {β : Type*} (F : ℕ → Fin 64 → β) (n : ℕ) (r : Fin 8192) (c : Fin 128) : β := F (row n r (hf c)) (ln c)

theorem ln_lo (j : Fin 64) (h : j.val < 128) : ln ⟨j.val, h⟩ = j := Fin.ext (Nat.mod_eq_of_lt j.2)
theorem ln_hi (j : Fin 64) (h : 64 + j.val < 128) : ln ⟨64 + j.val, h⟩ = j := Fin.ext (by simp only [ln]; omega)
theorem hf_lo (j : Fin 64) (h : j.val < 128) : hf ⟨j.val, h⟩ = 0 := Fin.ext (by simp only [hf]; have := j.2; show j.val / 64 = 0; omega)
theorem hf_hi (j : Fin 64) (h : 64 + j.val < 128) : hf ⟨64 + j.val, h⟩ = 1 := Fin.ext (by simp only [hf]; have := j.2; show (64 + j.val) / 64 = 1; omega)
theorem row_lt (n : ℕ) (hn : n < 16) (r : Fin 8192) (h : Fin 2) : row n r h.val < 262144 := by
  have := r.2
  have := h.2
  unfold row
  omega
theorem Z_lo {β : Type*} (F : ℕ → Fin 64 → β) (n : ℕ) (r : Fin 8192) (j : Fin 64) (h : j.val < 128) : Z F n r ⟨j.val, h⟩ = F (row n r 0) j := by
  rw [Z, ln_lo, hf_lo]; rfl
theorem Z_hi {β : Type*} (F : ℕ → Fin 64 → β) (n : ℕ) (r : Fin 8192) (j : Fin 64) (h : 64 + j.val < 128) : Z F n r ⟨64 + j.val, h⟩ = F (row n r 1) j := by
  rw [Z, ln_hi, hf_hi]; rfl

/-- A choice between the halves of a row stored twice is the row at the lane's column. -/
theorem twice {β : Type*} (f : Fin 64 → β) (c : Fin 128) :
    (if h : c.val < 64 then f ⟨c.val, h⟩ else f ⟨c.val - 64, by omega⟩) = f (ln c) := by
  by_cases h : c.val < 64
  · rw [dif_pos h]; exact congrArg f (Fin.ext (by simp only [ln]; omega))
  · rw [dif_neg h]; exact congrArg f (Fin.ext (by simp only [ln]; omega))

/-- A sum over the lanes, half by half. -/
theorem sum_lanes {β : Type*} [AddCommMonoid β] (f : Fin 128 → β) : ∑ c, f c = ∑ j : Fin 64, f ⟨j.val, lt_lo j⟩ + ∑ j : Fin 64, f ⟨64 + j.val, lt_hi j⟩ :=
  Fin.sum_univ_add (a := 64) (b := 64) f

/-- A sum over the lanes of one half. -/
theorem sum_half {β : Type*} [AddCommMonoid β] (T : Fin 64 → β) (c : Fin 128) : ∑ x : Fin 128, (if hf x = hf c then T (ln x) else 0) = ∑ j, T j := by
  rw [sum_lanes]
  simp only [ln_lo, ln_hi, hf_lo, hf_hi]
  rcases (by omega : hf c = 0 ∨ hf c = 1) with h | h <;> rw [h] <;> simp

/-- A packed row times a block-diagonal matrix: only the lane's own half counts. -/
theorem sum_block (F : Fin 2 → Fin 64 → ℝ) (B : Fin 64 → ℝ) (c : Fin 128) :
    ∑ x : Fin 128, F (hf x) (ln x) * (if hf x = hf c then B (ln x) else 0) = ∑ j, F (hf c) j * B j := by
  rw [← sum_half (fun j => F (hf c) j * B j) c]
  refine sum_congr rfl fun x _ => ?_
  by_cases h : hf x = hf c
  · rw [if_pos h, if_pos h, h]
  · rw [if_neg h, if_neg h, mul_zero]

/-- A sum over a product of ranges. -/
theorem sum_range_prod (f : ℕ → ℝ) (m k : ℕ) : ∑ i ∈ range (m * k), f i = ∑ n ∈ range m, ∑ r ∈ range k, f (k * n + r) := by
  induction m with
  | zero => simp
  | succ m ih => rw [Nat.succ_mul, sum_range_add, ih, sum_range_succ, Nat.mul_comm k m]

/-- A sum over the rows as a sum over blocks, packed rows and halves. -/
theorem sum_rows (f : ℕ → ℝ) :
    ∑ i ∈ range rows, f i = ∑ n ∈ range 16, ∑ r : Fin 8192, (f (row n r 0) + f (row n r 1)) := by
  have h1 := sum_range_prod f 131072 2
  have h2 := sum_range_prod (fun q => f (2 * q) + f (2 * q + 1)) 16 8192
  rw [show rows = 131072 * 2 from rfl, h1]
  simp only [sum_range_succ (n := 1), sum_range_one, Nat.add_zero]
  rw [show 131072 = 16 * 8192 from rfl, h2]
  refine sum_congr rfl fun n _ => ?_
  rw [sum_range]
  rfl

/-- The totals of an array of rows, kept by packed lanes over the blocks up to `n`. -/
def gramZ (F : ℕ → Fin 64 → ℝ) (n : ℕ) (a b : Fin 128) : ℝ := ∑ i ∈ range n, ∑ r, Z F i r a * Z F i r b
def colZ (F : ℕ → Fin 64 → ℝ) (n : ℕ) (c : Fin 128) : ℝ := ∑ i ∈ range n, ∑ r, Z F i r c
def cntZ (M : ℕ → ℝ) (n : ℕ) (h : Fin 2) : ℝ := ∑ i ∈ range n, ∑ r, M (row i r h)

theorem gramZ_succ (F : ℕ → Fin 64 → ℝ) (n : ℕ) (a b : Fin 128) : gramZ F (n + 1) a b = gramZ F n a b + ∑ r, Z F n r a * Z F n r b :=
  sum_range_succ _ _
theorem colZ_succ (F : ℕ → Fin 64 → ℝ) (n : ℕ) (c : Fin 128) : colZ F (n + 1) c = colZ F n c + ∑ r, Z F n r c := sum_range_succ _ _
theorem cntZ_succ (M : ℕ → ℝ) (n : ℕ) (h : Fin 2) : cntZ M (n + 1) h = cntZ M n h + ∑ r, M (row n r h) := sum_range_succ _ _

/-- The two halves' totals added are the rows' totals. -/
theorem gram_halves (F : ℕ → Fin 64 → ℝ) (j l : Fin 64) :
    gramZ F 16 ⟨j.val, lt_lo j⟩ ⟨l.val, lt_lo l⟩ + gramZ F 16 ⟨64 + j.val, lt_hi j⟩ ⟨64 + l.val, lt_hi l⟩ = Par.gram F j l := by
  rw [Par.gram, sum_rows, gramZ, gramZ, ← sum_add_distrib]
  simp only [← sum_add_distrib, Z_lo, Z_hi]
theorem col_halves (F : ℕ → Fin 64 → ℝ) (j : Fin 64) :
    colZ F 16 ⟨j.val, lt_lo j⟩ + colZ F 16 ⟨64 + j.val, lt_hi j⟩ = Par.col F j := by
  rw [Par.col, sum_rows, colZ, colZ, ← sum_add_distrib]
  simp only [← sum_add_distrib, Z_lo, Z_hi]
theorem cnt_halves (p : Par) : cntZ p.M 16 0 + cntZ p.M 16 1 = p.cnt := by
  rw [Par.cnt, sum_rows, cntZ, cntZ, ← sum_add_distrib]
  simp only [← sum_add_distrib]
  rfl

end Cert.Bn

end
-- ==== Proof.Reads.lean ====
module

public import proofs.«01_k».proof.Proof.Lanes
public import proofs.«01_k».proof.Proof.State

@[expose] public section

/-!
What one block computes: each step of the kernel's body read at an index, over numbers.
-/

set_option maxRecDepth 16384
noncomputable section

namespace Cert.KernelIdeal.Hand

open Cert.KernelIdeal Cert.KernelIdeal.Gen Cert.Bn
open Idealize.ShloMosaic

/-! ## Which half a lane lies in, as the kernel computes it -/

/-- The floor of a lane's number by 64, in words. -/
theorem half_word (c : Fin 128) :
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (hf c).val := by
  revert c; decide +kernel

/-- Whether two halves are the same, as a number. -/
theorem same_half (a b : Fin 2) :
    FloatOps.sitofp (F := Ideal) FTy.f32 (BitVec.setWidth 32 (IntOp.cmpi CmpIPredicate.eq (BitVec.ofNat 32 a.val) (BitVec.ofNat 32 b.val)))
      = ((if a = b then 1 else 0 : ℝ) : EReal) := by
  have h : (BitVec.setWidth 32 (IntOp.cmpi CmpIPredicate.eq (BitVec.ofNat 32 a.val) (BitVec.ofNat 32 b.val))).toInt = if a = b then 1 else 0 := by
    revert a b; decide +kernel
  show (((BitVec.setWidth 32 (IntOp.cmpi CmpIPredicate.eq (BitVec.ofNat 32 a.val) (BitVec.ofNat 32 b.val))).toInt : ℝ) : EReal) = _
  rw [h]; split <;> simp

/-- A pair times the indicator of one of its members is that member. -/
theorem sum_pick (f : Fin 2 → EReal) (a : Fin 2) : ∑ x, f x * ((if a = x then 1 else 0 : ℝ) : EReal) = f a := by
  rw [Fin.sum_univ_two]
  rcases (by omega : a = 0 ∨ a = 1) with h | h <;> rw [h] <;> simp

/-! ## The first pass -/

theorem pay23_at (k : Vec Ideal S8192x2 .bf16) (x : Vec Ideal S8192x128 .f32) (r : Fin 8192) (c : Fin 128) :
    k0_pay23 k x (ix2 r c) = x (ix2 r c) * k (ix2 r (hf c)) := by
  pointwise [k0_pay23, k0_pay22]
  simp only [half_word, same_half, sum_pick]
theorem pay24_at (k : Vec Ideal S8192x2 .bf16) (x : Vec Ideal S8192x128 .f32) (r : Fin 8192) (c : Fin 128) :
    k0_pay24 k x (ix2 r c) = k0_pay23 k x (ix2 r c) := by
  pointwise [k0_pay24]
theorem pay7_at (v : FVec Ideal S8192x128 .bf16) (m : Vec Ideal S128x128 .f32) (a b : Fin 128) :
    k0_pay7 v m (ix2 a b) = m (ix2 a b) + ∑ x, v (ix2 x a) * v (ix2 x b) := by
  pointwise [k0_pay7]
theorem pay8_at (v : FVec Ideal S8192x128 .bf16) (m : Vec Ideal S1x128 .f32) (b : Fin 128) :
    k0_pay8 v m (ix2 0 b) = m (ix2 0 b) + ∑ x, v (ix2 x b) := by
  pointwise [k0_pay8, k0_pay1]
theorem pay9_at (k : Vec Ideal S8192x2 .bf16) (m : Vec Ideal S1x2 .f32) (h : Fin 2) :
    k0_pay9 (k0_pay22 k) m (ix2 0 h) = m (ix2 0 h) + ∑ x, k (ix2 x h) := by
  pointwise [k0_pay9, k0_pay1, k0_pay22]
theorem pay2_at (a b : Fin 128) : (k0_pay2 (F := Ideal)) (ix2 a b) = 0 := by pointwise [k0_pay2]
theorem pay3_at (b : Fin 128) : (k0_pay3 (F := Ideal)) (ix2 0 b) = 0 := by pointwise [k0_pay3]
theorem pay4_at (b : Fin 2) : (k0_pay4 (F := Ideal)) (ix2 0 b) = 0 := by pointwise [k0_pay4]
theorem pay5_at (a b : Fin 128) : (k0_pay5 (F := Ideal)) (ix2 a b) = 0 := by pointwise [k0_pay5]
theorem pay6_at (b : Fin 128) : (k0_pay6 (F := Ideal)) (ix2 0 b) = 0 := by pointwise [k0_pay6]

/-! ## The totals turned into a layer's mean and scale -/

/-- A variance from totals known where the weights are not zero. -/
theorem form_num {p : Par} {F : ℕ → Fin 64 → ℝ} {w : Fin 64 → ℝ} {s : Fin 64 → EReal} {m : Fin 64 → Fin 64 → EReal}
    (hN : ∀ x, w x ≠ 0 → p.cnt ≠ 0) (hs : ∀ x, w x ≠ 0 → s x = (Par.col F x : EReal))
    (hm : ∀ x y, w x ≠ 0 → w y ≠ 0 → m x y = (Par.gram F x y : EReal)) :
    ∑ j, (w j : EReal) * ∑ l, (Ideal.div (m j l) (p.cnt : EReal) - Ideal.div (s j) (p.cnt : EReal) * Ideal.div (s l) (p.cnt : EReal)) * (w l : EReal)
      = (p.form F w : EReal) :=
  sum_num_mul _ fun j hj => sum_mul_num _ fun l hl => by
    rw [hm j l hj hl, hs j hj, hs l hl, div_real _ (hN j hj), div_real _ (hN j hj), div_real _ (hN j hj), ← EReal.coe_mul, ← EReal.coe_sub]

section
variable {p : Par} {n2 : Vec Ideal S1x2 .f32} (hn : ∑ h, n2 (ix2 0 h) = (p.cnt : EReal))
  {F : ℕ → Fin 64 → ℝ} {s : Vec Ideal S1x128 .f32} {m : Vec Ideal S128x128 .f32}
  {w : Vec Ideal S64x64 .f32} {W : Fin 64 → Fin 64 → ℝ} (hw : ∀ o j, w (ix2 o j) = (W o j : EReal))
include hn hw

theorem scale1_num {g : Vec Ideal S1x64 .f32} {G : ℝ} (he : p.eps = eps) (o : Fin 64) (hg : g (ix2 0 o) = (G : EReal))
    (hN : ∀ x, W o x ≠ 0 → p.cnt ≠ 0)
    (hs : ∀ x : Fin 64, W o x ≠ 0 → s (ix2 0 ⟨x.val, lt_lo x⟩) + s (ix2 0 ⟨64 + x.val, lt_hi x⟩) = (Par.col F x : EReal))
    (hm : ∀ x y : Fin 64, W o x ≠ 0 → W o y ≠ 0 →
      m (ix2 ⟨x.val, lt_lo x⟩ ⟨y.val, lt_lo y⟩) + m (ix2 ⟨64 + x.val, lt_hi x⟩ ⟨64 + y.val, lt_hi y⟩) = (Par.gram F x y : EReal))
    (hp : 0 < p.form F (W o) + p.eps) :
    k0_pay27 n2 w s m g (ix2 0 o) = ((G / √(p.form F (W o) + p.eps) : ℝ) : EReal) := by
  pointwise [k0_pay27, k0_pay26, k0_pay25]
  simp only [Fin.sum_univ_one, hn, hw, hg, eps_bits]
  refine (congrArg (fun z => Ideal.div (G : EReal) (Ideal.sqrt (z + (eps : EReal)))) (form_num hN hs hm)).trans ?_
  rw [← he]
  rw [← EReal.coe_add, sqrt_real hp.le, div_real _ (Real.sqrt_pos.2 hp).ne']
/-- Where the variance sees an infinite total there is no scale. -/
theorem scale1_inf {g : Vec Ideal S1x64 .f32} (o j : Fin 64) (hj : W o j ≠ 0)
    (hi : Inf (Ideal.div (m (ix2 ⟨j.val, lt_lo j⟩ ⟨j.val, lt_lo j⟩) + m (ix2 ⟨64 + j.val, lt_hi j⟩ ⟨64 + j.val, lt_hi j⟩)) (p.cnt : EReal)
      - Ideal.div (s (ix2 0 ⟨j.val, lt_lo j⟩) + s (ix2 0 ⟨64 + j.val, lt_hi j⟩)) (p.cnt : EReal)
        * Ideal.div (s (ix2 0 ⟨j.val, lt_lo j⟩) + s (ix2 0 ⟨64 + j.val, lt_hi j⟩)) (p.cnt : EReal))) :
    k0_pay27 n2 w s m g (ix2 0 o) = 0 := by
  have hW : (W o j : EReal) ≠ 0 := EReal.coe_ne_zero.2 hj
  pointwise [k0_pay27, k0_pay26, k0_pay25]
  simp only [Fin.sum_univ_one, hn, hw]
  refine div_inf _ (Inf.add_left (Inf.sum (Finset.mem_univ j) (Inf.mul_left (Inf.sum (Finset.mem_univ j) ?_) hW)) _).sqrt
  exact hi.mul hW
theorem shift1_num {b : Vec Ideal S1x64 .f32} {B : ℝ} (o : Fin 64) (hb : b (ix2 0 o) = (B : EReal))
    (hN : ∀ x, W o x ≠ 0 → p.cnt ≠ 0)
    (hs : ∀ x : Fin 64, W o x ≠ 0 → s (ix2 0 ⟨x.val, lt_lo x⟩) + s (ix2 0 ⟨64 + x.val, lt_hi x⟩) = (Par.col F x : EReal)) :
    k0_pay28 n2 w s b b (ix2 0 o) = ((∑ j, Par.col F j / p.cnt * W o j + B - B : ℝ) : EReal) := by
  pointwise [k0_pay28, k0_pay26, k0_pay25]
  simp only [Fin.sum_univ_one, hn, hw, hb]
  rw [sum_mul_num (g := fun j => Par.col F j / p.cnt) _ fun j hj => by rw [hs j hj, div_real _ (hN j hj)]]
  rw [← EReal.coe_add, ← EReal.coe_sub]

variable {a1 : Vec Ideal S1x64 .f32} {A : Fin 64 → ℝ} (ha : ∀ o, a1 (ix2 0 o) = (A o : EReal)) (hN : p.cnt ≠ 0)
  (hs : ∀ x : Fin 64, A x ≠ 0 → s (ix2 0 ⟨x.val, lt_lo x⟩) + s (ix2 0 ⟨64 + x.val, lt_hi x⟩) = (Par.col F x : EReal))
include ha hN hs
theorem var2_num (he : p.eps = eps)
    (hm : ∀ x y : Fin 64, A x ≠ 0 → A y ≠ 0 →
      m (ix2 ⟨x.val, lt_lo x⟩ ⟨y.val, lt_lo y⟩) + m (ix2 ⟨64 + x.val, lt_hi x⟩ ⟨64 + y.val, lt_hi y⟩) = (Par.gram F x y : EReal)) (q : Fin 64) :
    k0_pay35 n2 w a1 s m (ix2 0 q) = ((p.form F (fun o => W q o * A o) + p.eps : ℝ) : EReal) := by
  pointwise [k0_pay35, k0_pay25, k0_pay26, k0_pay29, k0_pay32, k0_pay31]
  simp only [Fin.sum_univ_one, hn, hw, ha, ← EReal.coe_mul, eps_bits]
  rw [EReal.coe_add, he]
  exact congrArg (fun z => z + (eps : EReal)) (form_num (w := fun o => W q o * A o) (fun _ _ => hN)
    (fun x hx => hs x (right_ne_zero_of_mul hx)) fun x y hx hy => hm x y (right_ne_zero_of_mul hx) (right_ne_zero_of_mul hy))
theorem mean2_num {b u : Vec Ideal S1x64 .f32} {B U : Fin 64 → ℝ} (hb : ∀ o, b (ix2 0 o) = (B o : EReal))
    (hu : ∀ o, A o ≠ 0 → u (ix2 0 o) = (U o : EReal)) (q : Fin 64) :
    k0_pay33 n2 b u w a1 s (ix2 0 q) = ((∑ o, (Par.col F o / p.cnt + U o) * (W q o * A o) + B q : ℝ) : EReal) := by
  pointwise [k0_pay33, k0_pay29, k0_pay32, k0_pay31, k0_pay30]
  simp only [Fin.sum_univ_one, hn, hw, ha, hb, ← EReal.coe_mul]
  rw [sum_mul_num (g := fun o => Par.col F o / p.cnt + U o) _ fun o ho => by
    have hA := right_ne_zero_of_mul ho
    rw [hs o hA, hu o hA, div_real _ hN, ← EReal.coe_add]]
  rw [← EReal.coe_add]
end

/-! ## The clip -/

theorem tv_at (A S e : FVec Ideal S1x64 .f32) (c : Fin 128) : k0_pay12 A S e (ix2 0 c) = k0_pay10 A S e (ix2 0 (ln c)) + k0_pay11 A S e (ix2 0 (ln c)) := by
  pointwise [k0_pay12]
  exact twice (fun o => k0_pay10 A S e (ix2 0 o) + k0_pay11 A S e (ix2 0 o)) c
theorem nu_at (A S e : FVec Ideal S1x64 .f32) (c : Fin 128) : k0_pay13 A S e (ix2 0 c) = 0 - k0_pay11 A S e (ix2 0 (ln c)) := by
  pointwise [k0_pay13]
  exact twice (fun o => 0 - k0_pay11 A S e (ix2 0 o)) c
theorem a1_at (A : FVec Ideal S1x64 .f32) (o : Fin 64) : k0_pay14 A (ix2 0 o) = A (ix2 0 o) := by
  pointwise [k0_pay14]
theorem u0_at (A S e : FVec Ideal S1x64 .f32) (o : Fin 64) : k0_pay15 A S e (ix2 0 o) = k0_pay11 A S e (ix2 0 o) := by
  pointwise [k0_pay15]

section
variable {A S e : FVec Ideal S1x64 .f32} {p : Par} (o : Fin 64) (hA : A (ix2 0 o) = (p.A o : EReal)) (hS : S (ix2 0 o) = (p.S o : EReal))
  (he1 : e (ix2 0 o) = (p.e1 o : EReal)) (hA0 : p.A o ≠ 0)
include hA hS he1 hA0
theorem cut_num : k0_pay10 A S e (ix2 0 o) = (p.t o : EReal) := by
  pointwise [k0_pay10]
  rw [hA, hS, he1, div_real _ hA0, ← EReal.coe_sub]; rfl
theorem lift_num : k0_pay11 A S e (ix2 0 o) = (p.u o : EReal) := by
  pointwise [k0_pay11]
  rw [cut_num o hA hS he1 hA0, ← EReal.coe_zero, ← EReal.coe_sub, max_real]; rfl
end

theorem pay16_at (v : Vec Ideal S8192x128 .bf16) (w : Vec Ideal S128x128 .bf16) (tv nu : Vec Ideal S1x128 .f32) (r : Fin 8192) (c : Fin 128) :
    k0_pay16 v w tv nu (ix2 r c) = max (∑ x, v (ix2 r x) * w (ix2 x c) - tv (ix2 0 c)) (nu (ix2 0 c)) := by
  pointwise [k0_pay16]
theorem pay17_at (v : Vec Ideal S8192x128 .bf16) (w : Vec Ideal S128x128 .bf16) (tv nu : Vec Ideal S1x128 .f32) (r : Fin 8192) (c : Fin 128) :
    k0_pay17 v w tv nu (ix2 r c) = k0_pay16 v w tv nu (ix2 r c) := by
  pointwise [k0_pay17]
theorem pay18_at (v : Vec Ideal S8192x128 .bf16) (w : Vec Ideal S128x128 .bf16) (tv nu : Vec Ideal S1x128 .f32) (m : Vec Ideal S128x128 .f32) (a b : Fin 128) :
    k0_pay18 v w tv nu m (ix2 a b) = m (ix2 a b) + ∑ x, k0_pay16 v w tv nu (ix2 x a) * k0_pay16 v w tv nu (ix2 x b) := by
  pointwise [k0_pay18]
theorem pay19_at (v : Vec Ideal S8192x128 .bf16) (w : Vec Ideal S128x128 .bf16) (tv nu : Vec Ideal S1x128 .f32) (m : Vec Ideal S1x128 .f32) (b : Fin 128) :
    k0_pay19 v w tv nu m (ix2 0 b) = m (ix2 0 b) + ∑ x, k0_pay16 v w tv nu (ix2 x b) := by
  pointwise [k0_pay19, k0_pay1]

/-- The clipped projection of a packed block at a lane, from what the lane's weights see of the block. -/
theorem pay16_num {p : Par} {n : ℕ} {v : Vec Ideal S8192x128 .bf16} {w : Vec Ideal S128x128 .bf16} {tv nu : Vec Ideal S1x128 .f32} (r : Fin 8192) (c : Fin 128)
    (hv : ∀ x, p.W1 (ln c) (ln x) ≠ 0 → v (ix2 r x) = ((Z p.X n r x : ℝ) : EReal))
    (hw : ∀ x, w (ix2 x c) = ((if hf x = hf c then p.W1 (ln c) (ln x) else 0 : ℝ) : EReal))
    (ht : tv (ix2 0 c) = ((p.t (ln c) + p.u (ln c) : ℝ) : EReal)) (hu : nu (ix2 0 c) = ((0 - p.u (ln c) : ℝ) : EReal)) :
    k0_pay16 v w tv nu (ix2 r c) = ((Z p.v n r c : ℝ) : EReal) := by
  rw [pay16_at]
  simp only [hw]
  rw [sum_mul_num (g := fun x => Z p.X n r x) _ fun x hx => hv x (fun h0 => hx (by rw [h0]; exact ite_self _)), ht, hu, ← EReal.coe_sub, max_real]
  rw [show (∑ x, Z p.X n r x * (if hf x = hf c then p.W1 (ln c) (ln x) else 0)) = ∑ j, p.X (row n r (hf c)) j * p.W1 (ln c) j from
    sum_block (fun h j => p.X (row n r h) j) (p.W1 (ln c)) c]
  rfl

/-! ## The last pass -/

/-- The second layer's weights with both scales in them. -/
theorem fold_at (w : Vec Ideal S64x64 .f32) (g : Vec Ideal S1x64 .f32) (n2 : Vec Ideal S1x2 .f32) (m : Vec Ideal S128x128 .f32) (s : Vec Ideal S1x128 .f32)
    (a1 : Vec Ideal S1x64 .f32) (q o : Fin 64) :
    k0_pay37 (folded w a1) (k0_pay34 g) (var2 w n2 m s a1) (ix2 q o)
      = w (ix2 q o) * a1 (ix2 0 o) * Ideal.div (g (ix2 0 q)) (Ideal.sqrt (k0_pay35 n2 w a1 s m (ix2 0 q))) := by
  pointwise [k0_pay37, k0_pay36, folded, k0_pay31, k0_pay34, var2]

theorem diag2_at (w : Vec Ideal S64x64 .f32) (g : Vec Ideal S1x64 .f32) (n2 : Vec Ideal S1x2 .f32) (m : Vec Ideal S128x128 .f32) (s : Vec Ideal S1x128 .f32)
    (a1 : Vec Ideal S1x64 .f32) (a b : Fin 128) :
    diag2 w g n2 m s a1 (ix2 a b)
      = k0_pay37 (folded w a1) (k0_pay34 g) (var2 w n2 m s a1) (ix2 (ln b) (ln a)) * ((if hf a = hf b then 1 else 0 : ℝ) : EReal) := by
  pointwise [diag2, k0_pay43, k0_pay39, k0_pay40, k0_pay41, k0_pay42]
  simp only [half_word, same_half]
  refine congrArg (· * _) ?_
  have hb : ∀ o : Fin 64, (if h : b.val < 64 then k0_pay37 (folded w a1) (k0_pay34 g) (var2 w n2 m s a1) (ix2 ⟨b.val, h⟩ o)
      else k0_pay37 (folded w a1) (k0_pay34 g) (var2 w n2 m s a1) (ix2 ⟨b.val - 64, by omega⟩ o))
      = k0_pay37 (folded w a1) (k0_pay34 g) (var2 w n2 m s a1) (ix2 (ln b) o) :=
    fun o => twice (fun q => k0_pay37 (folded w a1) (k0_pay34 g) (var2 w n2 m s a1) (ix2 q o)) b
  rw [← twice (fun o => k0_pay37 (folded w a1) (k0_pay34 g) (var2 w n2 m s a1) (ix2 (ln b) o)) a]
  split
  · rename_i h
    exact hb ⟨a.val, h⟩
  · exact hb ⟨a.val - 64, by omega⟩

theorem add2_at (w : Vec Ideal S64x64 .f32) (b g e : Vec Ideal S1x64 .f32) (n2 : Vec Ideal S1x2 .f32) (m : Vec Ideal S128x128 .f32) (s : Vec Ideal S1x128 .f32)
    (a1 u : Vec Ideal S1x64 .f32) (h : Fin 2) (c : Fin 128) :
    add2 w b g e n2 m s a1 u (ix2 h c) = ((if hf c = h then 1 else 0 : ℝ) : EReal)
      * k0_pay38 (k0_pay30 b) u (folded w a1) (k0_pay33 n2 b u w a1 s) (k0_pay34 g) (var2 w n2 m s a1) e (ix2 0 (ln c)) := by
  pointwise [add2, k0_pay20, k0_pay44, k0_pay45, k0_pay46]
  simp only [half_word, same_half]
  refine congrArg (HMul.hMul _) ?_
  exact twice (fun q => k0_pay38 (k0_pay30 b) u (folded w a1) (k0_pay33 n2 b u w a1 s) (k0_pay34 g) (var2 w n2 m s a1) e (ix2 0 q)) c

section
variable {p : Par} {n2 : Vec Ideal S1x2 .f32} (hn : ∑ h, n2 (ix2 0 h) = (p.cnt : EReal)) {s : Vec Ideal S1x128 .f32} {m : Vec Ideal S128x128 .f32}
  {w : Vec Ideal S64x64 .f32} (hw : ∀ o j, w (ix2 o j) = (p.W2 o j : EReal)) {a1 : Vec Ideal S1x64 .f32} (ha : ∀ o, a1 (ix2 0 o) = (p.A o : EReal))
  (hN : p.cnt ≠ 0) (hs : ∀ x : Fin 64, p.A x ≠ 0 → s (ix2 0 ⟨x.val, lt_lo x⟩) + s (ix2 0 ⟨64 + x.val, lt_hi x⟩) = (Par.col p.v x : EReal))
  (he : p.eps = eps) (hm : ∀ x y : Fin 64, p.A x ≠ 0 → p.A y ≠ 0 →
    m (ix2 ⟨x.val, lt_lo x⟩ ⟨y.val, lt_lo y⟩) + m (ix2 ⟨64 + x.val, lt_hi x⟩ ⟨64 + y.val, lt_hi y⟩) = (Par.gram p.v x y : EReal))
  {g : Vec Ideal S1x64 .f32} (hg : ∀ o, g (ix2 0 o) = (p.g2 o : EReal)) (hp : ∀ q, 0 < p.form p.v (p.w2 q) + p.eps)
include hn hw ha hN hs he hm hg hp

theorem scale2_num (q : Fin 64) : Ideal.div (g (ix2 0 q)) (Ideal.sqrt (k0_pay35 n2 w a1 s m (ix2 0 q))) = (p.s2 q : EReal) := by
  rw [var2_num hn hw ha hN hs he hm, hg]
  rw [show (p.form p.v fun o => p.W2 q o * p.A o) = p.form p.v (p.w2 q) from rfl, sqrt_real (hp q).le, div_real _ (Real.sqrt_pos.2 (hp q)).ne']
  rfl
theorem fold_num (q o : Fin 64) : k0_pay37 (folded w a1) (k0_pay34 g) (var2 w n2 m s a1) (ix2 q o) = ((p.w2 q o * p.s2 q : ℝ) : EReal) := by
  rw [fold_at, scale2_num hn hw ha hN hs he hm hg hp, hw, ha, ← EReal.coe_mul, ← EReal.coe_mul]
  rfl
theorem shift2_num {b e u : Vec Ideal S1x64 .f32} (hb : ∀ o, b (ix2 0 o) = (p.b2 o : EReal)) (h0 : ∀ o, p.e2 o = 0)
    (hu : ∀ o, p.A o ≠ 0 → u (ix2 0 o) = (p.u o : EReal)) (q : Fin 64) :
    k0_pay38 (k0_pay30 b) u (folded w a1) (k0_pay33 n2 b u w a1 s) (k0_pay34 g) (var2 w n2 m s a1) e (ix2 0 q) = (p.d q : EReal) + e (ix2 0 q) := by
  have hf : ∀ o, w (ix2 q o) * a1 (ix2 0 o) * (p.s2 q : EReal) = ((p.w2 q o * p.s2 q : ℝ) : EReal) :=
    fun o => by rw [hw, ha, ← EReal.coe_mul, ← EReal.coe_mul]; rfl
  pointwise [k0_pay38, k0_pay37, k0_pay36, folded, k0_pay31, k0_pay34, k0_pay30, var2]
  simp only [scale2_num hn hw ha hN hs he hm hg hp, hf]
  rw [sum_mul_num (g := p.u) (w := fun o => p.w2 q o * p.s2 q) _ fun o ho => hu o (right_ne_zero_of_mul (a := p.W2 q o) (left_ne_zero_of_mul ho)), mean2_num hn hw ha hN hs hb hu, hb]
  rw [← EReal.coe_mul, ← EReal.coe_mul, ← EReal.coe_add, sub_eq_add_neg, ← EReal.coe_neg, add_comm (e _), ← add_assoc, ← EReal.coe_add]
  refine congrArg (fun z : ℝ => (z : EReal) + e (ix2 0 q)) ?_
  rw [Par.d, h0, zero_sub]
  rfl
end

theorem pay21_at (v : Vec Ideal S8192x128 .bf16) (w : Vec Ideal S128x128 .bf16) (k : Vec Ideal S8192x2 .bf16) (d : Vec Ideal S2x128 .bf16) (r : Fin 8192) (c : Fin 128) :
    k0_pay21 v w k d (ix2 r c) = ∑ x, v (ix2 r x) * w (ix2 x c) + ∑ h, k (ix2 r h) * d (ix2 h c) := by
  pointwise [k0_pay21]

/-- The output at a lane, from the lane's own half of the packed row. -/
theorem out_half {v : Vec Ideal S8192x128 .bf16} {w : Vec Ideal S128x128 .bf16} {k : Vec Ideal S8192x2 .bf16} {d : Vec Ideal S2x128 .bf16} (r : Fin 8192) (c : Fin 128)
    {B T : Fin 64 → EReal} {D : EReal} (hw : ∀ x, w (ix2 x c) = B (ln x) * ((if hf x = hf c then 1 else 0 : ℝ) : EReal))
    (hd : ∀ h, d (ix2 h c) = ((if hf c = h then 1 else 0 : ℝ) : EReal) * D) (hT : ∀ x, hf x = hf c → v (ix2 r x) * B (ln x) = T (ln x)) :
    k0_pay21 v w k d (ix2 r c) = ∑ j, T j + k (ix2 r (hf c)) * D := by
  rw [pay21_at, ← sum_half T c]
  refine congrArg₂ (· + ·) (Finset.sum_congr rfl fun x _ => ?_) ?_
  · rw [hw]
    by_cases h : hf x = hf c
    · rw [if_pos h, if_pos h, EReal.coe_one, mul_one, hT x h]
    · rw [if_neg h, if_neg h, EReal.coe_zero, mul_zero, mul_zero]
  · rw [Fin.sum_univ_two, hd, hd]
    rcases (by omega : hf c = 0 ∨ hf c = 1) with h | h <;> rw [h] <;> simp

end Cert.KernelIdeal.Hand

end
-- ==== Proof.Totals.lean ====
module

public import proofs.«01_k».proof.Proof.Reads

@[expose] public section

/-!
What the launch's arrays hold: from blocks that hold the problem's numbers, the totals over the blocks, the two layers'
scales and the output's blocks.
-/

set_option maxRecDepth 16384
noncomputable section

namespace Cert.KernelIdeal.Hand

open Cert.KernelIdeal Cert.KernelIdeal.Gen Cert.Bn
open Idealize.ShloMosaic

/-- The weights of the last pass. -/
def In.B (a : In Ideal) (q o : Fin 64) : EReal :=
  k0_pay37 (folded (a.w2 32) a.a1) (k0_pay34 (a.g2 32)) (var2 (a.w2 32) (a.n2 16) (a.mv 16) (a.sv 16) a.a1) (ix2 q o)
/-- The shift of the last pass. -/
def In.D (a : In Ideal) (q : Fin 64) : EReal :=
  k0_pay38 (k0_pay30 (a.b2 32)) a.u0 (folded (a.w2 32) a.a1) (k0_pay33 (a.n2 16) (a.b2 32) a.u0 (a.w2 32) a.a1 (a.sv 16)) (k0_pay34 (a.g2 32))
    (var2 (a.w2 32) (a.n2 16) (a.mv 16) (a.sv 16) a.a1) (a.e2 32) (ix2 0 q)

theorem bd_at (a : In Ideal) (x c : Fin 128) : a.bd (ix2 x c) = a.B (ln c) (ln x) * ((if hf x = hf c then 1 else 0 : ℝ) : EReal) :=
  diag2_at (a.w2 32) (a.g2 32) (a.n2 16) (a.mv 16) (a.sv 16) a.a1 x c
theorem pd_at (a : In Ideal) (h : Fin 2) (c : Fin 128) : a.pd (ix2 h c) = ((if hf c = h then 1 else 0 : ℝ) : EReal) * a.D (ln c) :=
  add2_at (a.w2 32) (a.b2 32) (a.g2 32) (a.e2 32) (a.n2 16) (a.mv 16) (a.sv 16) a.a1 a.u0 h c

/-- The blocks a launch reads hold the arguments `b`. -/
structure Holds (a : In Ideal) (b : Args) : Prop where
  fine : b.Fine
  x : ∀ n < 16, ∀ r c, a.x n (ix2 r c) * a.k n (ix2 r (hf c)) = Z b.masked n r c
  k : ∀ n < 16, ∀ r h, a.k n (ix2 r h) = (b.par.M (row n r h.val) : EReal)
  k2 : ∀ n < 16, ∀ r h, a.k (32 + n) (ix2 r h) = (b.par.M (row n r h.val) : EReal)
  w1 : ∀ o j, a.w1 16 (ix2 o j) = (b.par.W1 o j : EReal)
  wb : ∀ n < 16, ∀ x c, a.wb (16 + n) (ix2 x c) = ((if hf x = hf c then b.par.W1 (ln c) (ln x) else 0 : ℝ) : EReal)
  w2 : ∀ o j, a.w2 32 (ix2 o j) = (b.par.W2 o j : EReal)
  b1 : ∀ o, a.b1 16 (ix2 0 o) = (b.par.b1 o : EReal)
  g1 : ∀ o, a.g1 16 (ix2 0 o) = b.g1 (ix1 o)
  e1 : ∀ o, a.e1 16 (ix2 0 o) = (b.par.e1 o : EReal)
  b2 : ∀ o, a.b2 32 (ix2 0 o) = (b.par.b2 o : EReal)
  g2 : ∀ o, a.g2 32 (ix2 0 o) = (b.par.g2 o : EReal)
  e2 : ∀ o, a.e2 32 (ix2 0 o) = b.e2 (ix1 o)

namespace Holds

variable {a : In Ideal} {b : Args} (H : Holds a b)
include H

/-! ## The first pass -/

theorem xm (n : ℕ) (hn : n < 16) (r : Fin 8192) (c : Fin 128) : a.xm n (ix2 r c) = Z b.masked n r c := by
  rw [In.xm, pay23_at]; exact H.x n hn r c
theorem xm_num (n : ℕ) (hn : n < 16) (r : Fin 8192) {c : Fin 128} (hc : b.good (ln c)) : a.xm n (ix2 r c) = ((Z b.par.X n r c : ℝ) : EReal) :=
  (H.xm n hn r c).trans (Args.masked_good hc _)
theorem xs_num (n : ℕ) (hn : n < 16) (r : Fin 8192) {c : Fin 128} (hc : b.good (ln c)) : a.xs n (ix2 r c) = ((Z b.par.X n r c : ℝ) : EReal) := by
  rw [In.xs, pay24_at]; exact H.xm_num n hn r hc

theorem m1 (n : ℕ) (hn : n ≤ 16) {x y : Fin 128} (hx : b.good (ln x)) (hy : b.good (ln y)) : a.m1 n (ix2 x y) = (gramZ b.par.X n x y : EReal) := by
  induction n with
  | zero => rw [In.m1, pay2_at, gramZ]; simp
  | succ n ih =>
    rw [In.m1, pay7_at, ih (by omega), gramZ_succ, EReal.coe_add, ← coe_sum]
    refine congrArg (HAdd.hAdd _) ?_
    exact Finset.sum_congr rfl fun r _ => by rw [H.xm_num n hn r hx, H.xm_num n hn r hy, EReal.coe_mul]
theorem sx (n : ℕ) (hn : n ≤ 16) {x : Fin 128} (hx : b.good (ln x)) : a.sx n (ix2 0 x) = (colZ b.par.X n x : EReal) := by
  induction n with
  | zero => rw [In.sx, pay3_at, colZ]; simp
  | succ n ih =>
    rw [In.sx, pay8_at, ih (by omega), colZ_succ, EReal.coe_add, ← coe_sum]
    refine congrArg (HAdd.hAdd _) ?_
    exact Finset.sum_congr rfl fun r _ => by rw [H.xm_num n hn r hx]
/-- A column's total is infinite once a block with an infinite entry is in it. -/
theorem sx_inf (n N : ℕ) (hn : n < N) (hN : N ≤ 16) (r : Fin 8192) (x : Fin 128) (hi : Inf (Z b.masked n r x)) : Inf (a.sx N (ix2 0 x)) := by
  induction N with
  | zero => exact absurd hn (Nat.not_lt_zero n)
  | succ N ih =>
    rw [In.sx, pay8_at]
    rcases Nat.lt_succ_iff_lt_or_eq.1 hn with h | rfl
    · exact (ih h (by omega)).add_left _
    · refine Inf.add_right (Inf.sum (Finset.mem_univ r) ?_) _
      rw [H.xm n hN]; exact hi
theorem n2 (n : ℕ) (hn : n ≤ 16) (h : Fin 2) : a.n2 n (ix2 0 h) = (cntZ b.par.M n h : EReal) := by
  induction n with
  | zero => rw [In.n2, pay4_at, cntZ]; simp
  | succ n ih =>
    rw [In.n2, pay9_at, ih (by omega), cntZ_succ, EReal.coe_add, ← coe_sum]
    refine congrArg (HAdd.hAdd _) ?_
    exact Finset.sum_congr rfl fun r _ => by rw [H.k n hn]

theorem cnt : ∑ h, a.n2 16 (ix2 0 h) = (b.par.cnt : EReal) := by
  rw [Fin.sum_univ_two, H.n2 16 le_rfl, H.n2 16 le_rfl, ← EReal.coe_add, cnt_halves]
theorem gram1 {x y : Fin 64} (hx : b.good x) (hy : b.good y) :
    a.m1 16 (ix2 ⟨x.val, lt_lo x⟩ ⟨y.val, lt_lo y⟩) + a.m1 16 (ix2 ⟨64 + x.val, lt_hi x⟩ ⟨64 + y.val, lt_hi y⟩) = (Par.gram b.par.X x y : EReal) := by
  rw [H.m1 16 le_rfl (by rwa [ln_lo]) (by rwa [ln_lo]), H.m1 16 le_rfl (by rwa [ln_hi]) (by rwa [ln_hi]), ← EReal.coe_add, gram_halves]
theorem col1 {x : Fin 64} (hx : b.good x) :
    a.sx 16 (ix2 0 ⟨x.val, lt_lo x⟩) + a.sx 16 (ix2 0 ⟨64 + x.val, lt_hi x⟩) = (Par.col b.par.X x : EReal) := by
  rw [H.sx 16 le_rfl (by rwa [ln_lo]), H.sx 16 le_rfl (by rwa [ln_hi]), ← EReal.coe_add, col_halves]
/-- The total of a column with an infinite entry. -/
theorem col1_inf {j : Fin 64} {i : ℕ} (hi : i < 262144) (h : Inf (b.masked i j)) :
    Inf (a.sx 16 (ix2 0 ⟨j.val, lt_lo j⟩) + a.sx 16 (ix2 0 ⟨64 + j.val, lt_hi j⟩)) := by
  obtain ⟨n, hn, r, hr⟩ : ∃ n < 16, ∃ r : Fin 8192, i = row n r 0 ∨ i = row n r 1 :=
    ⟨i / 16384, by omega, ⟨i / 2 % 8192, Nat.mod_lt _ (by omega)⟩, by simp only [row]; omega⟩
  rcases hr with rfl | rfl
  · exact (H.sx_inf n 16 hn le_rfl r _ (by rwa [Z_lo])).add_left _
  · exact (H.sx_inf n 16 hn le_rfl r _ (by rwa [Z_hi])).add_right _

/-! ## The first layer -/

/-- An output of the first linear map with a scale sees only good columns. -/
theorem clear {o : Fin 64} (ho : b.par.A o ≠ 0) : ¬ b.sees o := fun h => ho (by rw [Par.A, Args.g1_sees h, zero_div])

theorem A (o : Fin 64) : a.A (ix2 0 o) = (b.par.A o : EReal) := by
  by_cases h : b.sees o
  · obtain ⟨j, hj, hw⟩ := h
    rw [Par.A, Args.g1_sees ⟨j, hj, hw⟩, zero_div, EReal.coe_zero]
    refine scale1_inf H.cnt H.w1 o j hw ?_
    rcases Args.masked_bad H.fine hj with h0 | ⟨i, hi, hx⟩
    · rw [h0]; exact (inf_div_zero _).sub_left _
    · exact ((H.col1_inf hi hx).div _).mul_self.sub_right _
  · exact scale1_num H.cnt H.w1 rfl o ((H.g1 o).trans (Args.g1_eq H.fine h)) (fun x hx => (Args.cnt_good H.fine (Args.good_of h hx)).ne')
      (fun x hx => H.col1 (Args.good_of h hx)) (fun x y hx hy => H.gram1 (Args.good_of h hx) (Args.good_of h hy)) (Par.pos1 (Args.ok H.fine) o)
theorem S {o : Fin 64} (ho : b.par.A o ≠ 0) : a.S (ix2 0 o) = (b.par.S o : EReal) :=
  shift1_num H.cnt H.w1 o (H.b1 o) (fun x hx => (Args.cnt_good H.fine (Args.good_of (H.clear ho) hx)).ne')
    (fun x hx => H.col1 (Args.good_of (H.clear ho) hx))
theorem a1 (o : Fin 64) : a.a1 (ix2 0 o) = (b.par.A o : EReal) := (a1_at a.A o).trans (H.A o)
theorem u0 (o : Fin 64) (ho : b.par.A o ≠ 0) : a.u0 (ix2 0 o) = (b.par.u o : EReal) :=
  (u0_at a.A a.S (a.e1 16) o).trans (lift_num o (H.A o) (H.S ho) (H.e1 o) ho)
theorem tv {c : Fin 128} (hc : b.par.A (ln c) ≠ 0) : a.tv (ix2 0 c) = ((b.par.t (ln c) + b.par.u (ln c) : ℝ) : EReal) := by
  refine (tv_at a.A a.S (a.e1 16) c).trans ?_
  rw [cut_num (ln c) (H.A _) (H.S hc) (H.e1 _) hc, lift_num (ln c) (H.A _) (H.S hc) (H.e1 _) hc, EReal.coe_add]
theorem nu {c : Fin 128} (hc : b.par.A (ln c) ≠ 0) : a.nu (ix2 0 c) = ((0 - b.par.u (ln c) : ℝ) : EReal) := by
  refine (nu_at a.A a.S (a.e1 16) c).trans ?_
  rw [lift_num (ln c) (H.A _) (H.S hc) (H.e1 _) hc, EReal.coe_sub, EReal.coe_zero]

/-! ## The second pass: at the lanes with a scale -/

theorem v16 (n : ℕ) (hn : n < 16) (r : Fin 8192) {c : Fin 128} (hc : b.par.A (ln c) ≠ 0) :
    k0_pay16 (a.xs n) (a.wb (16 + n)) a.tv a.nu (ix2 r c) = ((Z b.par.v n r c : ℝ) : EReal) :=
  pay16_num r c (fun x hx => H.xs_num n hn r (Args.good_of (H.clear hc) hx)) (fun x => H.wb n hn x c) (H.tv hc) (H.nu hc)
theorem v (n : ℕ) (hn : n < 16) (r : Fin 8192) {c : Fin 128} (hc : b.par.A (ln c) ≠ 0) : a.v n (ix2 r c) = ((Z b.par.v n r c : ℝ) : EReal) := by
  rw [In.v, pay17_at]; exact H.v16 n hn r hc
theorem mv (n : ℕ) (hn : n ≤ 16) {x y : Fin 128} (hx : b.par.A (ln x) ≠ 0) (hy : b.par.A (ln y) ≠ 0) :
    a.mv n (ix2 x y) = (gramZ b.par.v n x y : EReal) := by
  induction n with
  | zero => rw [In.mv, pay5_at, gramZ]; simp
  | succ n ih =>
    rw [In.mv, pay18_at, ih (by omega), gramZ_succ, EReal.coe_add, ← coe_sum]
    refine congrArg (HAdd.hAdd _) ?_
    exact Finset.sum_congr rfl fun r _ => by rw [H.v16 n hn r hx, H.v16 n hn r hy, EReal.coe_mul]
theorem sv (n : ℕ) (hn : n ≤ 16) {x : Fin 128} (hx : b.par.A (ln x) ≠ 0) : a.sv n (ix2 0 x) = (colZ b.par.v n x : EReal) := by
  induction n with
  | zero => rw [In.sv, pay6_at, colZ]; simp
  | succ n ih =>
    rw [In.sv, pay19_at, ih (by omega), colZ_succ, EReal.coe_add, ← coe_sum]
    refine congrArg (HAdd.hAdd _) ?_
    exact Finset.sum_congr rfl fun r _ => by rw [H.v16 n hn r hx]
theorem gram2 (x y : Fin 64) (hx : b.par.A x ≠ 0) (hy : b.par.A y ≠ 0) :
    a.mv 16 (ix2 ⟨x.val, lt_lo x⟩ ⟨y.val, lt_lo y⟩) + a.mv 16 (ix2 ⟨64 + x.val, lt_hi x⟩ ⟨64 + y.val, lt_hi y⟩) = (Par.gram b.par.v x y : EReal) := by
  rw [H.mv 16 le_rfl (by rwa [ln_lo]) (by rwa [ln_lo]), H.mv 16 le_rfl (by rwa [ln_hi]) (by rwa [ln_hi]), ← EReal.coe_add, gram_halves]
theorem col2 (x : Fin 64) (hx : b.par.A x ≠ 0) :
    a.sv 16 (ix2 0 ⟨x.val, lt_lo x⟩) + a.sv 16 (ix2 0 ⟨64 + x.val, lt_hi x⟩) = (Par.col b.par.v x : EReal) := by
  rw [H.sv 16 le_rfl (by rwa [ln_lo]), H.sv 16 le_rfl (by rwa [ln_hi]), ← EReal.coe_add, col_halves]

/-! ## The output -/

theorem B (hN : b.par.cnt ≠ 0) (q o : Fin 64) : a.B q o = ((b.par.w2 q o * b.par.s2 q : ℝ) : EReal) :=
  fold_num H.cnt H.w2 H.a1 hN H.col2 rfl H.gram2 H.g2 (Par.pos2 (Args.ok H.fine)) q o
theorem D (hN : b.par.cnt ≠ 0) (q : Fin 64) : a.D q = (b.par.d q : EReal) + b.e2 (ix1 q) :=
  (shift2_num H.cnt H.w2 H.a1 hN H.col2 rfl H.gram2 H.g2 (Par.pos2 (Args.ok H.fine)) H.b2 (fun _ => rfl) H.u0 q).trans
    (congrArg (HAdd.hAdd _) (H.e2 q))
/-- Without a scale there is no weight. -/
theorem B_zero (q : Fin 64) {o : Fin 64} (h : b.par.A o = 0) : a.B q o = 0 := by
  rw [In.B, fold_at, H.a1, h, EReal.coe_zero, mul_zero, zero_mul]

/-- A lane of a selected row of the output's block `n`. -/
theorem o_one (n : ℕ) (hn : n < 16) (r : Fin 8192) (c : Fin 128) (hM : b.par.M (row n r (hf c)) = 1) :
    a.o n (ix2 r c) = ((Z b.par.out n r c : ℝ) : EReal) + b.e2 (ix1 (ln c)) := by
  have hN : b.par.cnt ≠ 0 := (Par.cnt_pos (Args.ok H.fine) (row_lt n hn r (hf c)) hM).ne'
  refine (out_half (B := a.B (ln c)) (T := fun j => ((b.par.v (row n r (hf c)) j * (b.par.w2 (ln c) j * b.par.s2 (ln c)) : ℝ) : EReal)) r c
    (fun x => bd_at a x c) (fun h => pd_at a h c) fun x hx => ?_).trans ?_
  · by_cases h0 : b.par.A (ln x) = 0
    · rw [H.B_zero _ h0, Par.w2, h0, mul_zero, mul_zero, zero_mul, mul_zero, EReal.coe_zero]
    · rw [H.B hN, H.v n hn r h0, Z, hx, ← EReal.coe_mul]
  · rw [H.k2 n hn, hM, H.D hN, coe_sum, EReal.coe_one, one_mul, ← add_assoc, ← EReal.coe_add]
    rw [Z, Par.out, hM, one_mul]

/-- A lane of an unselected row of the output's block `n`. -/
theorem o_zero (n : ℕ) (hn : n < 16) (r : Fin 8192) (c : Fin 128) (hM : b.par.M (row n r (hf c)) = 0) : a.o n (ix2 r c) = 0 := by
  refine (out_half (B := a.B (ln c)) (T := fun _ => 0) r c
    (fun x => bd_at a x c) (fun h => pd_at a h c) fun x hx => ?_).trans ?_
  · by_cases h0 : b.par.A (ln x) = 0
    · rw [H.B_zero _ h0, mul_zero]
    · rw [H.v n hn r h0, Z, hx, Par.v_zero (Args.ok H.fine) _ _ hM, EReal.coe_zero, zero_mul]
  · rw [H.k2 n hn, hM, EReal.coe_zero, zero_mul, Finset.sum_const_zero, add_zero]

end Holds

end Cert.KernelIdeal.Hand

end
-- ==== Proof.Blockwise.lean ====
module

public import proofs.«01_k».proof.KernelIdeal
public import proofs.«01_k».proof.Proof.Gen.KernelIdeal
public import Idealize.ShloMosaic.Lib.Routing.OpsOne
public import Idealize.ShloMosaic.Lib.Routing.OpsSet
public import Idealize.ShloMosaic.Lib.Routing.OpsPair
public import Idealize.ShloMosaic.PureOps.Ideal
public import Idealize.ShloMosaic.Lib.Pointwise

@[expose] public section

/-!
A 64 by 64 block written into a 128 by 128 array at a corner given by two index words, read at an entry.
-/

set_option maxRecDepth 16384
noncomputable section

namespace Cert.KernelIdeal.Hand

open Cert.KernelIdeal Cert.KernelIdeal.Gen
open Idealize.ShloMosaic

/-- The entry at which an element of the block lands: the corner plus the element's coordinates. -/
theorem block_lands (idx : IVec ⟨1, ![2]⟩ 32) (p q : ℕ) (hp : (idx (ix1 (0 : Fin 2))).toInt = p) (hq : (idx (ix1 (1 : Fin 2))).toInt = q)
    (i j : Fin 64) (x y : Fin 128) :
    scatter_S128x128_S2_S64x64_01_n_01_0.resultIdx? (ix2 i j) idx = some (ix2 x y) ↔ p + i.val = x.val ∧ q + j.val = y.val := by
  have h0 : scatter_S128x128_S2_S64x64_01_n_01_0.window (ix2 i j) (0 : Fin 2) = i.val := rfl
  have h1 : scatter_S128x128_S2_S64x64_01_n_01_0.window (ix2 i j) (1 : Fin 2) = j.val := rfl
  refine (Routing.resultIdx?_ix2 _ _ idx x y).trans ?_
  rw [Routing.start_pair _ rfl rfl idx, Routing.start_pair _ rfl rfl idx, h0, h1]
  have hp' : (idx (ValueIdx.ix1 (0 : Fin 2))).toInt = p := hp
  have hq' : (idx (ValueIdx.ix1 (1 : Fin 2))).toInt = q := hq
  rw [hp', hq']
  omega

/-- Inside the block the array holds the block's element. -/
theorem block_in (x0 : FVec Ideal ⟨2, ![128, 128]⟩ .f32) (idx : IVec ⟨1, ![2]⟩ 32) (u : FVec Ideal ⟨2, ![64, 64]⟩ .f32) (p q : ℕ)
    (hp : (idx (ix1 (0 : Fin 2))).toInt = p) (hq : (idx (ix1 (1 : Fin 2))).toInt = q) (i j : Fin 64) (x y : Fin 128)
    (hx : p + i.val = x.val) (hy : q + j.val = y.val) :
    Host.scatter scatter_S128x128_S2_S64x64_01_n_01_0 (fun _ b => b) x0 idx u (ix2 x y) = u (ix2 i j) := by
  refine Routing.scatter_set_hit _ x0 idx u _ _ (fun k hk => ?_) (ix2 i j) ((block_lands idx p q hp hq i j x y).2 ⟨hx, hy⟩)
  obtain ⟨i', j', rfl⟩ : ∃ i' j', k = ix2 i' j' := ⟨k 0, k 1, ValueIdx.eq_ix2 k⟩
  have h := (block_lands idx p q hp hq i' j' x y).1 hk
  rw [show i' = i from Fin.ext (by omega), show j' = j from Fin.ext (by omega)]

/-- Outside the block the array is as it was. -/
theorem block_out (x0 : FVec Ideal ⟨2, ![128, 128]⟩ .f32) (idx : IVec ⟨1, ![2]⟩ 32) (u : FVec Ideal ⟨2, ![64, 64]⟩ .f32) (p q : ℕ)
    (hp : (idx (ix1 (0 : Fin 2))).toInt = p) (hq : (idx (ix1 (1 : Fin 2))).toInt = q) (x y : Fin 128)
    (h : ¬(p ≤ x.val ∧ x.val < p + 64 ∧ q ≤ y.val ∧ y.val < q + 64)) :
    Host.scatter scatter_S128x128_S2_S64x64_01_n_01_0 (fun _ b => b) x0 idx u (ix2 x y) = x0 (ix2 x y) := by
  refine Routing.scatter_set_miss _ x0 idx u _ fun k hk => ?_
  obtain ⟨i', j', rfl⟩ : ∃ i' j', k = ix2 i' j' := ⟨k 0, k 1, ValueIdx.eq_ix2 k⟩
  have h' := (block_lands idx p q hp hq i' j' x y).1 hk
  have := i'.2
  have := j'.2
  omega

end Cert.KernelIdeal.Hand
-- ==== Proof.Operands.lean ====
module

public import proofs.«01_k».proof.Proof.Totals
public import proofs.«01_k».proof.Proof.Run
public import proofs.«01_k».proof.Proof.Blockwise
public import Idealize.ShloMosaic.Lib.Pipeline.ValueKit
public import Idealize.ShloMosaic.Lib.Claim

@[expose] public section

/-!
What the launch's blocks hold, in the program's arguments: the host operations before the launch read at an index, and
each block read where it lies in its array.
-/

set_option maxRecDepth 16384
noncomputable section

namespace Cert.KernelIdeal.Hand

open Cert.KernelIdeal Cert.KernelIdeal.Gen Cert.Bn
open Idealize.ShloMosaic

/-! ## Where the blocks lie -/

theorem idx_x : ∀ t : Fin cfg0.N, t.val < 16 → (cfg0.win 0).index t = ![t.val, 0] := by decide +kernel
theorem idx_k : ∀ t : Fin cfg0.N, t.val < 16 → (cfg0.win 1).index t = ![t.val, 0] := by decide +kernel
theorem idx_k2 : ∀ t : Fin cfg0.N, 32 ≤ t.val → (cfg0.win 1).index t = ![t.val - 32, 0] := by decide +kernel
theorem idx_par : ∀ t : Fin cfg0.N, (cfg0.win 2).index t = ![0, 0] ∧ (cfg0.win 3).index t = ![0, 0] ∧ (cfg0.win 4).index t = ![0, 0]
    ∧ (cfg0.win 5).index t = ![0, 0] ∧ (cfg0.win 6).index t = ![0, 0] ∧ (cfg0.win 7).index t = ![0, 0] ∧ (cfg0.win 8).index t = ![0, 0]
    ∧ (cfg0.win 9).index t = ![0, 0] ∧ (cfg0.win 10).index t = ![0, 0] := by decide +kernel

variable (m : (ℓ : Loc nD τ sig) → Buf (Elt Ideal) ℓ) (c : Dev nD)

/-- The program's arguments on a device. -/
def args : Args where
  x := m ((c.tc : Thread nD τ).loc main_arg0)
  k := m ((c.tc : Thread nD τ).loc main_arg1)
  W1 := m ((c.tc : Thread nD τ).loc main_arg2)
  b1 := m ((c.tc : Thread nD τ).loc main_arg3)
  g1 := m ((c.tc : Thread nD τ).loc main_arg4)
  e1 := m ((c.tc : Thread nD τ).loc main_arg5)
  W2 := m ((c.tc : Thread nD τ).loc main_arg6)
  b2 := m ((c.tc : Thread nD τ).loc main_arg7)
  g2 := m ((c.tc : Thread nD τ).loc main_arg8)
  e2 := m ((c.tc : Thread nD τ).loc main_arg9)

/-! ## The arrays the launch finds -/

/-- What a buffer holds as the launch begins: the host operations' result. -/
theorem V_host (b : Ref sig .tc) : V m c b = StableHlo.after hostOps0 (fun b => m (c, b)) (Proc.devRef .tc b) := by
  show StableHlo.after (List.flatten [hostOps0]) _ _ = _
  rw [List.flatten_singleton]

theorem packed_lt (q : Fin 131072) (l : Fin 128) : 2 * q.val + l.val / 64 < 262144 := by omega
theorem half_lt (q : Fin 131072) (h : Fin 2) : 2 * q.val + h.val < 262144 := by omega

/-- The packed rows: lane `l` of packed row `q` is column `l % 64` of row `2 q + l / 64`. -/
theorem found_x (q : Fin 131072) (l : Fin 128) : V m c main_v0 (ix2 q l) = (args m c).x (ix2 ⟨2 * q.val + l.val / 64, packed_lt q l⟩ (ln l)) := by
  rw [V_host]
  entry_read
  pointwise
  blk_ext [args, ln]
/-- The mask in pairs, as numbers. -/
theorem found_k (q : Fin 131072) (h : Fin 2) : V m c main_v2 (ix2 q h) = ((((args m c).k (ix1 ⟨2 * q.val + h.val, half_lt q h⟩)).toNat : ℝ) : EReal) := by
  rw [V_host]
  entry_read
  pointwise
  show (((BitVec.toNat _ : ℕ) : ℝ) : EReal) = _
  refine congrArg (fun b : BitVec 1 => ((b.toNat : ℝ) : EReal)) ?_
  blk_ext [args]
theorem found_b1 (o : Fin 64) : V m c main_v14 (ix2 0 o) = (args m c).b1 (ix1 o) := by
  rw [V_host]; entry_read; pointwise; rfl
theorem found_g1 (o : Fin 64) : V m c main_v15 (ix2 0 o) = (args m c).g1 (ix1 o) := by
  rw [V_host]; entry_read; pointwise; rfl
theorem found_e1 (o : Fin 64) : V m c main_v16 (ix2 0 o) = (args m c).e1 (ix1 o) := by
  rw [V_host]; entry_read; pointwise; rfl
theorem found_b2 (o : Fin 64) : V m c main_v17 (ix2 0 o) = (args m c).b2 (ix1 o) := by
  rw [V_host]; entry_read; pointwise; rfl
theorem found_g2 (o : Fin 64) : V m c main_v18 (ix2 0 o) = (args m c).g2 (ix1 o) := by
  rw [V_host]; entry_read; pointwise; rfl
theorem found_e2 (o : Fin 64) : V m c main_v19 (ix2 0 o) = (args m c).e2 (ix1 o) := by
  rw [V_host]; entry_read; pointwise; rfl

/-- Two words that both say the corner's number. -/
theorem corner (w : BitVec 32) (j : Fin 2) :
    concatenate S2 0 [⟨S1, broadcastInDim S1 ![] bcast_S_S1 (constantI S_ 32 w)⟩, ⟨S1, broadcastInDim S1 ![] bcast_S_S1 (constantI S_ 32 w)⟩]
      concatenates_S1_S1_S2_d0 (ix1 j) = w := by
  fin_cases j <;> pointwise

/-- The first layer's weights, transposed, twice along the diagonal. -/
theorem found_wb (x y : Fin 128) :
    V m c main_v13 (ix2 x y) = if hf x = hf y then (args m c).W1 (ix2 (ln y) (ln x)) else (0 : EReal) := by
  rw [V_host]
  entry_read
  rw [show ∀ (z : FVec Ideal S128x128 .f32) i, truncf FTy.bf16 z bitsLt_bf16_f32 i = z i from fun _ _ => rfl]
  have hx := x.2
  have hy := y.2
  by_cases h1 : 64 ≤ x.val ∧ 64 ≤ y.val
  · rw [block_in _ _ _ 64 64 (by rw [corner]; rfl) (by rw [corner]; rfl) (ln x) (ln y) x y (by simp only [ln]; omega) (by simp only [ln]; omega),
      if_pos (Fin.ext (by simp only [hf]; omega))]
    pointwise
    rfl
  rw [block_out _ _ _ 64 64 (by rw [corner]; rfl) (by rw [corner]; rfl) x y (by omega)]
  by_cases h0 : x.val < 64 ∧ y.val < 64
  · rw [block_in _ _ _ 0 0 (by rw [corner]; rfl) (by rw [corner]; rfl) (ln x) (ln y) x y (by simp only [ln]; omega) (by simp only [ln]; omega),
      if_pos (Fin.ext (by simp only [hf]; omega))]
    pointwise
    rfl
  rw [block_out _ _ _ 0 0 (by rw [corner]; rfl) (by rw [corner]; rfl) x y (by omega), if_neg (fun h => by
    have := Fin.ext_iff.1 h
    simp only [hf] at this
    omega)]
  pointwise

/-! ## The blocks -/

theorem block_x (t : Fin cfg0.N) (ht : t.val < 16) (r : Fin 8192) (l : Fin 128) (h : 8192 * t.val + r.val < 131072) :
    iblk m c 0 t (ix2 r l) = V m c main_v0 (ix2 (⟨8192 * t.val + r.val, h⟩ : Fin 131072) l) := by
  blk_ext [iblk, idx_x t ht]
theorem block_k (t : Fin cfg0.N) (ht : t.val < 16) (r : Fin 8192) (l : Fin 2) (h : 8192 * t.val + r.val < 131072) :
    iblk m c 1 t (ix2 r l) = V m c main_v2 (ix2 (⟨8192 * t.val + r.val, h⟩ : Fin 131072) l) := by
  blk_ext [iblk, idx_k t ht]
theorem block_k2 (t : Fin cfg0.N) (ht : 32 ≤ t.val) (r : Fin 8192) (l : Fin 2) (h : 8192 * (t.val - 32) + r.val < 131072) :
    iblk m c 1 t (ix2 r l) = V m c main_v2 (ix2 (⟨8192 * (t.val - 32) + r.val, h⟩ : Fin 131072) l) := by
  blk_ext [iblk, idx_k2 t ht]
theorem block_w1 (t : Fin cfg0.N) (o j : Fin 64) : iblk m c 2 t (ix2 o j) = (args m c).W1 (ix2 o j) := by
  blk_ext! [iblk, V, idx_par t, args]
theorem block_w2 (t : Fin cfg0.N) (o j : Fin 64) : iblk m c 4 t (ix2 o j) = (args m c).W2 (ix2 o j) := by
  blk_ext! [iblk, V, idx_par t, args]
theorem block_wb (t : Fin cfg0.N) (x y : Fin 128) : iblk m c 3 t (ix2 x y) = V m c main_v13 (ix2 x y) := by
  blk_ext [iblk, idx_par t]
theorem block_b1 (t : Fin cfg0.N) (o : Fin 64) : iblk m c 5 t (ix2 0 o) = V m c main_v14 (ix2 0 o) := by
  blk_ext [iblk, idx_par t]
theorem block_g1 (t : Fin cfg0.N) (o : Fin 64) : iblk m c 6 t (ix2 0 o) = V m c main_v15 (ix2 0 o) := by
  blk_ext [iblk, idx_par t]
theorem block_e1 (t : Fin cfg0.N) (o : Fin 64) : iblk m c 7 t (ix2 0 o) = V m c main_v16 (ix2 0 o) := by
  blk_ext [iblk, idx_par t]
theorem block_b2 (t : Fin cfg0.N) (o : Fin 64) : iblk m c 8 t (ix2 0 o) = V m c main_v17 (ix2 0 o) := by
  blk_ext [iblk, idx_par t]
theorem block_g2 (t : Fin cfg0.N) (o : Fin 64) : iblk m c 9 t (ix2 0 o) = V m c main_v18 (ix2 0 o) := by
  blk_ext [iblk, idx_par t]
theorem block_e2 (t : Fin cfg0.N) (o : Fin 64) : iblk m c 10 t (ix2 0 o) = V m c main_v19 (ix2 0 o) := by
  blk_ext [iblk, idx_par t]

/-! ## The blocks over numbers -/

theorem pt_of (n : ℕ) (h : n < 48) : (pt n : Fin cfg0.N).val = n := Nat.mod_eq_of_lt h

/-- The mask at a packed row of block `n`. -/
theorem found_k_row (n : ℕ) (hn : n < 16) (r : Fin 8192) (h : Fin 2) (q : Fin 131072) (hq : q.val = 8192 * n + r.val) :
    V m c main_v2 (ix2 q h) = ((((args m c).k (ix1 ⟨row n r h.val, row_lt n hn r h⟩)).toNat : ℝ) : EReal) := by
  refine (found_k m c q h).trans ?_
  rw [show (⟨2 * q.val + h.val, half_lt q h⟩ : Fin 262144) = ⟨row n r h.val, row_lt n hn r h⟩ from Fin.ext (by simp only [row, hq])]
/-- The entries at a packed row of block `n`. -/
theorem found_x_row (n : ℕ) (hn : n < 16) (r : Fin 8192) (l : Fin 128) (q : Fin 131072) (hq : q.val = 8192 * n + r.val) :
    V m c main_v0 (ix2 q l) = (args m c).x (ix2 ⟨row n r (hf l).val, row_lt n hn r (hf l)⟩ (ln l)) := by
  refine (found_x m c q l).trans ?_
  rw [show (⟨2 * q.val + l.val / 64, packed_lt q l⟩ : Fin 262144) = ⟨row n r (hf l).val, row_lt n hn r (hf l)⟩ from
    Fin.ext (by simp only [row, hf, hq])]

/-- The selection bits of block `n`. -/
theorem ins_k (n : ℕ) (hn : n < 16) (r : Fin 8192) (h : Fin 2) :
    (ins m c).k n (ix2 r h) = ((((args m c).k (ix1 ⟨row n r h.val, row_lt n hn r h⟩)).toNat : ℝ) : EReal) := by
  have e := pt_of n (by omega)
  have hr := r.2
  exact (block_k m c (pt n) (by omega) r h (by omega)).trans (found_k_row m c n hn r h _ (by show 8192 * (pt n).val + r.val = _; rw [e]))
/-- The selection bits of block `n`, as point `N` of phase 2 reads them. -/
theorem ins_k2 (n N : ℕ) (hN : N = 32 + n) (hn : n < 16) (r : Fin 8192) (h : Fin 2) :
    (ins m c).k N (ix2 r h) = ((((args m c).k (ix1 ⟨row n r h.val, row_lt n hn r h⟩)).toNat : ℝ) : EReal) := by
  have e := pt_of N (by omega)
  have hr := r.2
  exact (block_k2 m c (pt N) (by omega) r h (by omega)).trans
    (found_k_row m c n hn r h _ (by show 8192 * ((pt N).val - 32) + r.val = _; rw [e]; omega))
/-- The entries of block `n`. -/
theorem ins_x (n : ℕ) (hn : n < 16) (r : Fin 8192) (l : Fin 128) :
    (ins m c).x n (ix2 r l) = (args m c).x (ix2 ⟨row n r (hf l).val, row_lt n hn r (hf l)⟩ (ln l)) := by
  have e := pt_of n (by omega)
  have hr := r.2
  exact (block_x m c (pt n) (by omega) r l (by omega)).trans (found_x_row m c n hn r l _ (by show 8192 * (pt n).val + r.val = _; rw [e]))

/-- A choice between a number and zero is a number. -/
theorem pick_num (P : Prop) [Decidable P] (w : EReal) (v : ℝ) (h : w = v) : (if P then w else 0) = ((if P then v else 0 : ℝ) : EReal) := by
  split_ifs
  · exact h
  · exact EReal.coe_zero.symm

/-- The first layer's weights over numbers. -/
theorem wb_num (ha : (args m c).Fine) (x y : Fin 128) :
    V m c main_v13 (ix2 x y) = ((if hf x = hf y then (args m c).par.W1 (ln y) (ln x) else 0 : ℝ) : EReal) := by
  rw [found_wb m c x y]
  exact pick_num (hf x = hf y) ((args m c).W1 (ix2 (ln y) (ln x))) ((args m c).par.W1 (ln y) (ln x)) ((args m c).W1_eq ha (ln y) (ln x))
theorem ins_wb (n : ℕ) (x y : Fin 128) : (ins m c).wb n (ix2 x y) = V m c main_v13 (ix2 x y) := block_wb m c (pt n) x y
theorem ins_w1 (n : ℕ) (o j : Fin 64) : (ins m c).w1 n (ix2 o j) = (args m c).W1 (ix2 o j) := block_w1 m c (pt n) o j
theorem ins_w2 (n : ℕ) (o j : Fin 64) : (ins m c).w2 n (ix2 o j) = (args m c).W2 (ix2 o j) := block_w2 m c (pt n) o j
theorem ins_b1 (n : ℕ) (o : Fin 64) : (ins m c).b1 n (ix2 0 o) = (args m c).b1 (ix1 o) := (block_b1 m c (pt n) o).trans (found_b1 m c o)
theorem ins_g1 (n : ℕ) (o : Fin 64) : (ins m c).g1 n (ix2 0 o) = (args m c).g1 (ix1 o) := (block_g1 m c (pt n) o).trans (found_g1 m c o)
theorem ins_e1 (n : ℕ) (o : Fin 64) : (ins m c).e1 n (ix2 0 o) = (args m c).e1 (ix1 o) := (block_e1 m c (pt n) o).trans (found_e1 m c o)
theorem ins_b2 (n : ℕ) (o : Fin 64) : (ins m c).b2 n (ix2 0 o) = (args m c).b2 (ix1 o) := (block_b2 m c (pt n) o).trans (found_b2 m c o)
theorem ins_g2 (n : ℕ) (o : Fin 64) : (ins m c).g2 n (ix2 0 o) = (args m c).g2 (ix1 o) := (block_g2 m c (pt n) o).trans (found_g2 m c o)
theorem ins_e2 (n : ℕ) (o : Fin 64) : (ins m c).e2 n (ix2 0 o) = (args m c).e2 (ix1 o) := (block_e2 m c (pt n) o).trans (found_e2 m c o)

/-- Blocks read out of the arguments hold them. -/
theorem holds_of (a : In Ideal) (b : Args) (ha : b.Fine)
    (hx : ∀ n (hn : n < 16) r l, a.x n (ix2 r l) = b.x (ix2 ⟨row n r (hf l).val, row_lt n hn r (hf l)⟩ (ln l)))
    (hk : ∀ n (hn : n < 16) r h, a.k n (ix2 r h) = (((b.k (ix1 ⟨row n r h.val, row_lt n hn r h⟩)).toNat : ℝ) : EReal))
    (hk2 : ∀ n (hn : n < 16) r h, a.k (32 + n) (ix2 r h) = (((b.k (ix1 ⟨row n r h.val, row_lt n hn r h⟩)).toNat : ℝ) : EReal))
    (hw : ∀ n x y, a.wb n (ix2 x y) = ((if hf x = hf y then b.par.W1 (ln y) (ln x) else 0 : ℝ) : EReal))
    (hw1 : ∀ n o j, a.w1 n (ix2 o j) = b.W1 (ix2 o j)) (hw2 : ∀ n o j, a.w2 n (ix2 o j) = b.W2 (ix2 o j))
    (hb1 : ∀ n o, a.b1 n (ix2 0 o) = b.b1 (ix1 o)) (hg1 : ∀ n o, a.g1 n (ix2 0 o) = b.g1 (ix1 o)) (he1 : ∀ n o, a.e1 n (ix2 0 o) = b.e1 (ix1 o))
    (hb2 : ∀ n o, a.b2 n (ix2 0 o) = b.b2 (ix1 o)) (hg2 : ∀ n o, a.g2 n (ix2 0 o) = b.g2 (ix1 o)) (he2 : ∀ n o, a.e2 n (ix2 0 o) = b.e2 (ix1 o)) :
    Holds a b where
  fine := ha
  x n hn r l := by rw [hx n hn, hk n hn, Z, Args.masked, dif_pos (row_lt n hn r (hf l))]
  k n hn r h := by rw [hk n hn, Args.M_eq]
  k2 n hn r h := by rw [hk2 n hn, Args.M_eq]
  w1 o j := (hw1 16 o j).trans (b.W1_eq ha o j)
  wb n _ x y := hw (16 + n) x y
  w2 o j := (hw2 32 o j).trans (b.W2_eq ha o j)
  b1 o := (hb1 16 o).trans (b.b1_eq ha o)
  g1 o := hg1 16 o
  e1 o := (he1 16 o).trans (b.e1_eq ha o)
  b2 o := (hb2 32 o).trans (b.b2_eq ha o)
  g2 o := (hg2 32 o).trans (b.g2_eq ha o)
  e2 o := he2 32 o

/-- Where the arguments are as the precondition says, the launch's blocks hold them. -/
theorem holds (ha : (args m c).Fine) : Holds (ins m c) (args m c) :=
  holds_of (ins m c) (args m c) ha (ins_x m c) (ins_k m c) (fun n hn r h => ins_k2 m c n (32 + n) rfl hn r h)
    (fun n x y => (ins_wb m c n x y).trans (wb_num m c ha x y))
    (ins_w1 m c) (ins_w2 m c) (ins_b1 m c) (ins_g1 m c) (ins_e1 m c) (ins_b2 m c) (ins_g2 m c) (ins_e2 m c)

end Cert.KernelIdeal.Hand
-- ==== Proof.Output.lean ====
module

public import proofs.«01_k».proof.Proof.Operands

@[expose] public section

/-!
What the result holds after the run: the launch's blocks fill the packed array, and the reshape after the launch unpacks
its rows.
-/

set_option maxRecDepth 16384
noncomputable section

namespace Cert.KernelIdeal.Hand

open Cert.KernelIdeal Cert.KernelIdeal.Gen Cert.Bn
open Idealize.ShloMosaic

variable (m : (ℓ : Loc nD τ sig) → Buf (Elt Ideal) ℓ) (c : Dev nD)

theorem idx_out : ∀ t : Fin cfg0.N, 32 ≤ t.val → (cfg0.win 11).index t = ![t.val - 32, 0] := by decide +kernel

open Classical in
/-- What row `i` of the result holds: in a selected row the equation's output and the last shift, zero elsewhere. -/
def outAt (a : Args) (i : ℕ) (q : Fin 64) : EReal := if a.par.M i = 1 then (a.par.out i q : EReal) + a.e2 (ix1 q) else 0

/-- The packed array the launch's blocks make up. -/
def packed (a : Args) : FVec Ideal ⟨2, ![131072, 128]⟩ .f32 :=
  fun j => outAt a (2 * (j 0).val + (j 1).val / 64) (ln (j 1))

/-- A block's entry is the packed array's. -/
theorem block_out_num (ha : (args m c).Fine) (n : ℕ) (hn : n < 16) (r : Fin 8192) (l : Fin 128) (q : Fin 131072)
    (hq : q.val = 8192 * n + r.val) : (ins m c).o n (ix2 r l) = packed (args m c) (ix2 q l) := by
  have h : (ins m c).o n (ix2 r l) = outAt (args m c) (row n r (hf l)) (ln l) := by
    rcases (Args.ok ha).mask (row n r (hf l)) with hM | hM
    · rw [outAt, if_neg (by rw [hM]; exact zero_ne_one), (holds m c ha).o_zero n hn r l hM]
    · rw [outAt, if_pos hM, (holds m c ha).o_one n hn r l hM, Z]
  rw [h]
  simp only [packed, row, hf, ix2_0, ix2_1, hq]

/-- After the launch the output's array is the packed array. -/
theorem out_array (ha : (args m c).Fine) : (dats m 0 c).arrAt 11 cfg0.N = packed (args m c) := by
  refine (dats m 0 c).arrAt_eq_of_covers 11 _ (by decide +kernel) fun t hf y => ?_
  rw [flush11] at hf
  have ht : 32 ≤ t.val := of_decide_eq_true hf
  have hN : t.val < 48 := t.2
  blk_simp
  rw [after11]
  obtain ⟨r, l, rfl⟩ : ∃ (r : Fin 8192) (l : Fin 128), y = ix2 r l := ⟨y 0, y 1, ValueIdx.eq_ix2 y⟩
  have hr := r.2
  refine (block_out_num m c ha (t.val - 32) (by omega) r l ⟨8192 * (t.val - 32) + r.val, by omega⟩ rfl).trans
    (congrArg (packed (args m c)) ?_)
  blk_ext [idx_out t ht]

/-- The reshape after the launch, read at an entry. -/
theorem unpack (σ : Valuation τ sig (Elt Ideal)) (i : Fin 262144) (p : Fin 64) (q : Fin 131072) (l : Fin 128)
    (hq : q.val = i.val / 2) (hl : l.val = 64 * (i.val % 2) + p.val) :
    StableHlo.after hostOps1 σ (Proc.devRef .tc main_v21) (ix2 i p) = σ (Proc.devRef .tc main_v20) (ix2 q l) := by
  entry_read
  pointwise
  blk_ext []

theorem arrays_inj : Function.Injective (Pipeline.arrRef spec0) := by decide

/-- After the run entry `p` of row `i` of the result is what `outAt` says. -/
theorem result_num (ha : (args m c).Fine) (i : Fin 262144) (p : Fin 64) :
    Pipeline.afterTail₀ cfgs (dats m) 0 (V0 m) [hostOps1] c main_v21 (ix2 i p) = outAt (args m c) i p := by
  have hi := i.2
  have hp := p.2
  show StableHlo.after (List.flatten [hostOps1]) (Pipeline.withArrays spec0 c (V0 m c) fun w => (dats m 0 c).arrAt w cfg0.N)
    (Proc.devRef .tc main_v21) (ix2 i p) = _
  rw [List.flatten_singleton, unpack _ i p ⟨i.val / 2, by omega⟩ ⟨64 * (i.val % 2) + p.val, by omega⟩ rfl rfl]
  refine (congrFun ((Pipeline.withArrays_arr spec0 arrays_inj c (V0 m c) (fun w => (dats m 0 c).arrAt w cfg0.N) 11).trans
    (out_array m c ha)) _).trans ?_
  simp only [packed, ix2_0, ix2_1]
  rw [show 2 * (i.val / 2) + (64 * (i.val % 2) + p.val) / 64 = i.val from by omega,
    show ln ⟨64 * (i.val % 2) + p.val, by omega⟩ = p from Fin.ext (by simp only [ln]; omega)]

end Cert.KernelIdeal.Hand
-- ==== Proof.Pre.lean ====
module

public import proofs.«01_k».proof.Proof.Inputs
public import proofs.«01_k».proof.Proof.Gen.Pre_fine
public import Idealize.ShloMosaic.Lib.ReduceAll
public import Idealize.ShloMosaic.Lib.Pointwise

@[expose] public section

/-!
What the precondition says of the arguments: the parameters are numbers and the first layer's scale is not negative.
-/

set_option maxRecDepth 16384
noncomputable section

namespace Cert.Bn

open Idealize.ShloMosaic

/-- An extended real whose absolute value is below infinity is a number. -/
theorem num_of_abs (x : EReal) (h : max x (-x) < ⊤) : Num x := by
  have h1 : x ≠ ⊤ := (lt_of_le_of_lt (le_max_left _ _) h).ne
  have h2 : x ≠ ⊥ := fun e => by rw [e] at h; exact absurd h (by simp)
  exact ⟨x.toReal, (EReal.coe_toReal h1 h2).symm⟩

/-- The bits of infinity. -/
theorem inf_bits : (FloatOps.ofBits .f32 0x7F800000#32 : Ideal .f32) = (⊤ : EReal) := by
  simp [Ideal.ofBits, Ideal.ieee]

/-- The bits of zero. -/
theorem zero_bits : (FloatOps.ofBits .f32 0x00000000#32 : Ideal .f32) = (0 : EReal) := by
  simp [Ideal.ofBits, Ideal.ieee]

/-- An element that the precondition finds below infinity in absolute value is a number. -/
theorem num_of_bit {s : Shape} (x : FVec Ideal s .f32) (h : (⟨0, ![]⟩ : Shape).BroadcastsInDim s ![]) (i : s.Idx)
    (e : cmpf .olt (Host.absf x) (broadcastInDim s ![] h (constant ⟨0, ![]⟩ .f32 0x7F800000#32)) i = 1#1) : Num (x i) := by
  have e' : Ideal.cmp .olt (max (x i) (-(x i))) (FloatOps.ofBits .f32 0x7F800000#32 : Ideal .f32) = 1#1 := e
  rw [inf_bits] at e'
  refine num_of_abs _ ?_
  by_contra hn
  simp [Ideal.cmp, hn] at e'

/-- An element that the precondition finds at least zero is. -/
theorem nonneg_of_bit {s : Shape} (x : FVec Ideal s .f32) (h : (⟨0, ![]⟩ : Shape).BroadcastsInDim s ![]) (i : s.Idx)
    (e : cmpf .oge x (broadcastInDim s ![] h (constant ⟨0, ![]⟩ .f32 0x00000000#32)) i = 1#1) : (0 : EReal) ≤ x i := by
  have e' : Ideal.cmp .oge (x i) (FloatOps.ofBits .f32 0x00000000#32 : Ideal .f32) = 1#1 := e
  rw [zero_bits] at e'
  by_contra hn
  simp [Ideal.cmp, hn] at e'

/-- The precondition, read. -/
theorem fine_of (a : Args) (h : Cert.Pre_fine.fn (F := Ideal) a.x a.k a.W1 a.b1 a.g1 a.e1 a.W2 a.b2 a.g2 a.e2 = fun _ => 1#1) : a.Fine := by
  have h := congrFun h ix0
  dsimp only [Cert.Pre_fine.fn, Cert.Pre_fine.fn_part1] at h
  obtain ⟨h, h31⟩ := IntOp.andi_eq_one.1 h
  obtain ⟨h7, h22⟩ := IntOp.andi_eq_one.1 h
  have k7 := fun i => IntOp.andi_eq_one.1 (Host.reduce_andi_all _ _ _ _ _ h7 i)
  have k22 := fun i => IntOp.andi_eq_one.1 (Host.reduce_andi_all _ _ _ _ _ h22 i)
  have k31 := fun i => IntOp.andi_eq_one.1 (Host.reduce_andi_all _ _ _ _ _ h31 i)
  exact
    { W1 := fun i j => num_of_bit _ _ _ (k7 (ix2 i j)).1
      W2 := fun i j => num_of_bit _ _ _ (k7 (ix2 i j)).2
      b1 := fun o => num_of_bit _ _ _ (IntOp.andi_eq_one.1 (IntOp.andi_eq_one.1 (k22 (ix1 o)).1).1).1
      g1 := fun o => num_of_bit _ _ _ (IntOp.andi_eq_one.1 (IntOp.andi_eq_one.1 (k22 (ix1 o)).1).1).2
      e1 := fun o => num_of_bit _ _ _ (IntOp.andi_eq_one.1 (k22 (ix1 o)).1).2
      b2 := fun o => num_of_bit _ _ _ (k31 (ix1 o)).1
      g2 := fun o => num_of_bit _ _ _ (k31 (ix1 o)).2
      nonneg := fun o => nonneg_of_bit _ _ _ (k22 (ix1 o)).2 }

end Cert.Bn
-- ==== Proof.Reference.lean ====
module

public import proofs.«01_k».proof.Proof.Inputs
public import proofs.«01_k».proof.Proof.Gen.ReferenceIdeal.Run

@[expose] public section

/-!
What the reference computes: its result, read at a selected row and a column, is the number `Par.rout` and the last
shift added; at any other row it is zero.
-/

set_option maxRecDepth 16384
noncomputable section

namespace Cert.ReferenceIdeal.Hand

open Cert.ReferenceIdeal Cert.ReferenceIdeal.Gen Cert.ReferenceIdeal.Value Cert.Bn
open Idealize.ShloMosaic

/-- The selection as a column of zeros and ones. -/
def mask (k : IVec S262144 1) : FVec Ideal S262144x1 .f32 :=
  broadcastInDim S262144x1 ![0] bcast_S262144_S262144x1_0 (uitofp .f32 k)
/-- A row over the columns repeated for every row. -/
def spread (v : FVec Ideal S64 .f32) : FVec Ideal S262144x64 .f32 :=
  broadcastInDim S262144x64 ![0, 1] bcast_S1x64_S262144x64_0_1 (broadcastInDim S1x64 ![1] bcast_S64_S1x64_1 v)
/-- The selection repeated for every column. -/
def maskAll (k : IVec S262144 1) : FVec Ideal S262144x64 .f32 :=
  broadcastInDim S262144x64 ![0, 1] bcast_S262144x1_S262144x64_0_1 (mask k)
/-- A linear map and a bias. -/
def lin (x : FVec Ideal S262144x64 .f32) (w : FVec Ideal S64x64 .f32) (b : FVec Ideal S64 .f32) : FVec Ideal S262144x64 .f32 :=
  addf (Host.dotGeneral dot_S262144x64_S64x64_S262144x64_1_0_0_1_n_n none x (transpose S64x64 [1, 0] w transposes_S64x64_S64x64_1_0)) (spread b)
/-- The number of selected rows, for every column. -/
def count (k : IVec S262144 1) : FVec Ideal S64 .f32 :=
  broadcastInDim S64 ![] bcast_S_S64 (Host.reduceAdd (mask k) (constant S_ .f32 0x00000000#32) reducesTo_S262144x1_S_d0_1 h_S_)
/-- The columns' means over the selected rows. -/
def mean (h : FVec Ideal S262144x64 .f32) (k : IVec S262144 1) : FVec Ideal S64 .f32 :=
  Host.divf (Host.reduceAdd (mulf h (maskAll k)) (constant S_ .f32 0x00000000#32) reducesTo_S262144x64_S64_d0 h_S_) (count k)
/-- The rows less the columns' means. -/
def dev (h : FVec Ideal S262144x64 .f32) (k : IVec S262144 1) : FVec Ideal S262144x64 .f32 :=
  subf h (spread (mean h k))
/-- The columns' variances over the selected rows. -/
def var (h : FVec Ideal S262144x64 .f32) (k : IVec S262144 1) : FVec Ideal S64 .f32 :=
  Host.divf (Host.reduceAdd (mulf (mulf (dev h k) (dev h k)) (maskAll k)) (constant S_ .f32 0x00000000#32) reducesTo_S262144x64_S64_d0 h_S_) (count k)
/-- Masked batch normalisation. -/
def norm (h : FVec Ideal S262144x64 .f32) (k : IVec S262144 1) (g e : FVec Ideal S64 .f32) : FVec Ideal S262144x64 .f32 :=
  addf (mulf (Host.divf (dev h k) (spread (Host.sqrt (addf (var h k) (broadcastInDim S64 ![] bcast_S_S64 (constant S_ .f32 0x3727C5AC#32)))))) (spread g)) (spread e)
/-- The clip at zero. -/
def clip (h : FVec Ideal S262144x64 .f32) : FVec Ideal S262144x64 .f32 :=
  maximumf h (broadcastInDim S262144x64 ![] bcast_S_S262144x64 (constant S_ .f32 0x00000000#32))
/-- The whole reference. -/
def whole (a : Args) : FVec Ideal S262144x64 .f32 :=
  mulf (norm (lin (clip (norm (lin a.x a.W1 a.b1) a.k a.g1 a.e1)) a.W2 a.b2) a.k a.g2 a.e2) (maskAll a.k)

/-- The reference's result is these stages applied to its arguments. -/
theorem res_eq (m : (ℓ : Loc nD τ sig) → Buf (Elt Ideal) ℓ) (c : Dev nD) :
    res_main_v74 m c = whole ⟨m ((c.tc : Thread nD τ).loc main_arg0), m ((c.tc : Thread nD τ).loc main_arg1), m ((c.tc : Thread nD τ).loc main_arg2),
      m ((c.tc : Thread nD τ).loc main_arg3), m ((c.tc : Thread nD τ).loc main_arg4), m ((c.tc : Thread nD τ).loc main_arg5), m ((c.tc : Thread nD τ).loc main_arg6),
      m ((c.tc : Thread nD τ).loc main_arg7), m ((c.tc : Thread nD τ).loc main_arg8), m ((c.tc : Thread nD τ).loc main_arg9)⟩ := rfl

/-- A column's total, over any number of rows. -/
theorem total_col {n : ℕ} (x : FVec Ideal ⟨2, ![n, 64]⟩ .f32) (h : (⟨2, ![n, 64]⟩ : Shape).ReducesTo [0] ⟨1, ![64]⟩)
    (h0 : 0 < (⟨0, ![]⟩ : Shape).numel) (o : Fin 64) :
    Host.reduceAdd x (constant ⟨0, ![]⟩ .f32 0x00000000#32) h h0 (ix1 o) = ∑ r : Fin n, x (ix2 r o) := by
  pointwise
/-- A single column's total, over any number of rows. -/
theorem total_all {n : ℕ} (x : FVec Ideal ⟨2, ![n, 1]⟩ .f32) (h : (⟨2, ![n, 1]⟩ : Shape).ReducesTo [0, 1] ⟨0, ![]⟩)
    (h0 : 0 < (⟨0, ![]⟩ : Shape).numel) (j : (⟨0, ![]⟩ : Shape).Idx) :
    Host.reduceAdd x (constant ⟨0, ![]⟩ .f32 0x00000000#32) h h0 j = ∑ r : Fin n, x (ix2 r 0) := by
  pointwise
  exact Finset.sum_congr rfl fun _ _ => by simp

/-- The host's operations read at an index. -/
theorem div_at {s : Shape} (x y : FVec Ideal s .f32) (j : s.Idx) : Host.divf x y j = Ideal.div (x j) (y j) := rfl
theorem sqrt_at {s : Shape} (x : FVec Ideal s .f32) (j : s.Idx) : Host.sqrt x j = Ideal.sqrt (x j) := rfl
theorem add_at {s : Shape} (x y : FVec Ideal s .f32) (j : s.Idx) : addf x y j = x j + y j := rfl
theorem sub_at {s : Shape} (x y : FVec Ideal s .f32) (j : s.Idx) : subf x y j = x j - y j := rfl
theorem mul_at {s : Shape} (x y : FVec Ideal s .f32) (j : s.Idx) : mulf x y j = x j * y j := rfl

variable (k : IVec S262144 1) (i : Fin 262144) (o : Fin 64)

theorem mask_at : mask k (ix2 i 0) = (((k (ix1 i)).toNat : ℝ) : EReal) := by
  pointwise [mask]
  rfl
theorem maskAll_at : maskAll k (ix2 i o) = (((k (ix1 i)).toNat : ℝ) : EReal) := by
  pointwise [maskAll, mask]
  rfl
theorem spread_at (v : FVec Ideal S64 .f32) : spread v (ix2 i o) = v (ix1 o) := by
  pointwise [spread]
theorem lin_at (x : FVec Ideal S262144x64 .f32) (w : FVec Ideal S64x64 .f32) (b : FVec Ideal S64 .f32) :
    lin x w b (ix2 i o) = ∑ j, x (ix2 i j) * w (ix2 o j) + b (ix1 o) := by
  pointwise [lin, spread]
theorem count_at : count k (ix1 o) = ∑ x : Fin 262144, mask k (ix2 x 0) := by
  unfold count
  exact total_all (mask k) reducesTo_S262144x1_S_d0_1 h_S_ _
theorem mean_at (h : FVec Ideal S262144x64 .f32) :
    mean h k (ix1 o) = Ideal.div (∑ x : Fin 262144, h (ix2 x o) * maskAll k (ix2 x o)) (count k (ix1 o)) := by
  rw [mean, div_at, total_col]
  simp only [mul_at]
theorem dev_at (h : FVec Ideal S262144x64 .f32) : dev h k (ix2 i o) = h (ix2 i o) - mean h k (ix1 o) := by
  rw [dev, sub_at, spread_at]
theorem var_at (h : FVec Ideal S262144x64 .f32) :
    var h k (ix1 o) = Ideal.div (∑ x : Fin 262144, dev h k (ix2 x o) * dev h k (ix2 x o) * maskAll k (ix2 x o)) (count k (ix1 o)) := by
  rw [var, div_at, total_col]
  simp only [mul_at]
theorem small_at : broadcastInDim S64 ![] bcast_S_S64 (constant (F := Ideal) S_ .f32 0x3727C5AC#32) (ix1 o) = Ideal.ofBits .f32 0x3727C5AC#32 := by
  pointwise
theorem norm_at (h : FVec Ideal S262144x64 .f32) (g e : FVec Ideal S64 .f32) :
    norm h k g e (ix2 i o) = Ideal.div (dev h k (ix2 i o)) (Ideal.sqrt (var h k (ix1 o) + Ideal.ofBits .f32 0x3727C5AC#32)) * g (ix1 o) + e (ix1 o) := by
  rw [norm, add_at, mul_at, div_at, spread_at, spread_at, spread_at, sqrt_at, add_at, small_at]
theorem clip_at (h : FVec Ideal S262144x64 .f32) : clip h (ix2 i o) = max (h (ix2 i o)) 0 := by
  pointwise [clip]

/-! ## The stages as numbers -/

variable {a : Args} (ha : a.Fine)

/-- A total over the rows of numbers known on the selected ones, times the selection. -/
theorem total_num (f : Fin 262144 → EReal) (g : ℕ → ℝ) (hf : ∀ i, a.k (ix1 i) = 1#1 → f i = (g i : EReal)) :
    ∑ i : Fin 262144, f i * maskAll a.k (ix2 i o) = ((∑ i ∈ Finset.range rows, g i * a.par.M i : ℝ) : EReal) := by
  rw [Finset.sum_range, ← coe_sum]
  refine Finset.sum_congr rfl fun i _ => ?_
  rw [maskAll_at]
  rcases BitVec.eq_zero_or_eq_one (a.k (ix1 i)) with h | h
  · rw [Args.M_zero h, h]; simp
  · rw [Args.M_one h, h, hf i h]; simp
/-- A total over the rows with an infinite term among the selected ones. -/
theorem total_inf (f : Fin 262144 → EReal) {i : Fin 262144} (hi : a.k (ix1 i) = 1#1) (hf : Inf (f i)) :
    Inf (∑ i : Fin 262144, f i * maskAll a.k (ix2 i o)) := by
  refine Inf.sum (Finset.mem_univ i) ?_
  rw [maskAll_at, hi]
  simpa using hf
theorem count_num : count a.k (ix1 o) = (a.par.cnt : EReal) := by
  rw [count_at, Par.cnt, Finset.sum_range, ← coe_sum]
  exact Finset.sum_congr rfl fun i _ => by rw [mask_at, Args.M_eq]

section
include ha
variable {h : FVec Ideal S262144x64 .f32} {H : ℕ → Fin 64 → ℝ}
  (hh : ∀ i, a.k (ix1 i) = 1#1 → h (ix2 i o) = (H i o : EReal)) (hi : a.k (ix1 i) = 1#1)
include hh hi

theorem mean_num : mean h a.k (ix1 o) = (a.par.rmean H o : EReal) := by
  rw [mean_at, count_num, total_num o _ (fun i => H i o) hh, div_real _ (Args.cnt_pos ha hi).ne']; rfl
theorem dev_num : dev h a.k (ix2 i o) = ((H i o - a.par.rmean H o : ℝ) : EReal) := by
  rw [dev_at, mean_num i o ha hh hi, hh i hi, EReal.coe_sub]
theorem var_num : var h a.k (ix1 o) = (a.par.rvar H o : EReal) := by
  rw [var_at, count_num, total_num o _ (fun i => (H i o - a.par.rmean H o) * (H i o - a.par.rmean H o))
    (fun i hi => by rw [dev_num i o ha hh hi, EReal.coe_mul]), div_real _ (Args.cnt_pos ha hi).ne']; rfl
theorem norm_num {g e : FVec Ideal S64 .f32} {G : ℝ} (hg : g (ix1 o) = (G : EReal)) :
    norm h a.k g e (ix2 i o) = (((H i o - a.par.rmean H o) / √(a.par.rvar H o + a.par.eps) * G : ℝ) : EReal) + e (ix1 o) := by
  have hp : 0 < a.par.rvar H o + eps := add_pos_of_nonneg_of_pos (Par.rvar_nonneg (Args.ok ha) H o) eps_pos
  rw [norm_at, dev_num i o ha hh hi, var_num i o ha hh hi, eps_bits, ← EReal.coe_add, sqrt_real hp.le,
    div_real _ (Real.sqrt_pos.2 hp).ne', hg, ← EReal.coe_mul]
  rfl
end

/-- Where a selected entry is infinite the normalised column is the shift. -/
theorem norm_inf {h : FVec Ideal S262144x64 .f32} {i₀ : Fin 262144} (hi₀ : a.k (ix1 i₀) = 1#1) (hh : Inf (h (ix2 i₀ o))) (g e : FVec Ideal S64 .f32) :
    norm h a.k g e (ix2 i o) = e (ix1 o) := by
  have hm : Inf (mean h a.k (ix1 o)) := by
    rw [mean_at, count_num]; exact (total_inf o _ hi₀ hh).div _
  have hd : ∀ i, Inf (dev h a.k (ix2 i o)) := fun i => by rw [dev_at]; exact hm.sub_right _
  have hv : Inf (var h a.k (ix1 o)) := by
    rw [var_at, count_num]; exact (total_inf o (fun i => dev h a.k (ix2 i o) * dev h a.k (ix2 i o)) hi₀ (hd i₀).mul_self).div _
  rw [norm_at, div_inf _ (hv.add_left _).sqrt, zero_mul, zero_add]

include ha

theorem lin_num {x : FVec Ideal S262144x64 .f32} {X : ℕ → Fin 64 → ℝ} {w : FVec Ideal S64x64 .f32} {W : Fin 64 → Fin 64 → ℝ} (hw : ∀ o j, w (ix2 o j) = (W o j : EReal))
    {b : FVec Ideal S64 .f32} {B : Fin 64 → ℝ} (hb : ∀ o, b (ix1 o) = (B o : EReal)) (hx : ∀ j, W o j ≠ 0 → x (ix2 i j) = (X i j : EReal)) :
    lin x w b (ix2 i o) = ((∑ j, X i j * W o j + B o : ℝ) : EReal) := by
  rw [lin_at, EReal.coe_add, hb]
  simp only [hw]
  rw [sum_mul_num _ hx]

/-- The first layer at a selected row. -/
theorem first_num (hi : a.k (ix1 i) = 1#1) : norm (lin a.x a.W1 a.b1) a.k a.g1 a.e1 (ix2 i o) = (a.par.bn a.par.h a.par.g1 a.par.e1 i o : EReal) := by
  by_cases hs : a.sees o
  · obtain ⟨j, hj, hw⟩ := hs
    obtain ⟨i₀, hi₀, hx⟩ := Args.bad_entry hj ⟨i, hi⟩
    have hl : Inf (lin a.x a.W1 a.b1 (ix2 i₀ o)) := by
      rw [lin_at]
      refine (Inf.sum (Finset.mem_univ j) (hx.mul ?_)).add_left _
      rw [Args.W1_eq ha]; exact EReal.coe_ne_zero.2 hw
    rw [norm_inf i o hi₀ hl, Args.e1_eq ha, Par.bn, Args.g1_sees ⟨j, hj, hw⟩, mul_zero, zero_add]
  · have h1 : ∀ i, a.k (ix1 i) = 1#1 → lin a.x a.W1 a.b1 (ix2 i o) = (a.par.h i o : EReal) := fun i hi =>
      lin_num i o ha (Args.W1_eq ha) (Args.b1_eq ha) fun j hw => Args.x_eq (Args.good_of hs hw) hi
    rw [norm_num i o ha h1 hi (Args.g1_eq ha hs), Args.e1_eq ha, ← EReal.coe_add]; rfl

/-- The reference's result at a selected row. -/
theorem whole_one (hi : a.k (ix1 i) = 1#1) : whole a (ix2 i o) = (a.par.rout i o : EReal) + a.e2 (ix1 o) := by
  have h2 : ∀ i o, a.k (ix1 i) = 1#1 → clip (norm (lin a.x a.W1 a.b1) a.k a.g1 a.e1) (ix2 i o) = (a.par.r i o : EReal) := fun i o hi => by
    rw [clip_at, first_num i o ha hi, ← EReal.coe_zero, max_real]; rfl
  have h3 : ∀ i, a.k (ix1 i) = 1#1 → lin (clip (norm (lin a.x a.W1 a.b1) a.k a.g1 a.e1)) a.W2 a.b2 (ix2 i o) = (a.par.h2 i o : EReal) :=
    fun i hi => lin_num i o ha (Args.W2_eq ha) (Args.b2_eq ha) fun j _ => h2 i j hi
  have hr : a.par.rout i o = (a.par.h2 i o - a.par.rmean a.par.h2 o) / √(a.par.rvar a.par.h2 o + a.par.eps) * a.par.g2 o := by
    rw [Par.rout, Par.bn, Args.M_one hi, mul_one]; exact add_zero _
  rw [whole, mul_at, maskAll_at, norm_num i o ha h3 hi (Args.g2_eq ha o), hi, hr]
  simp
omit ha in
/-- The reference's result at any other row. -/
theorem whole_zero (hi : a.k (ix1 i) = 0#1) : whole a (ix2 i o) = 0 := by
  rw [whole, mul_at, maskAll_at, hi]
  simp

end Cert.ReferenceIdeal.Hand

end
-- ==== Proof.Algebraic.lean ====
module

public import proofs.«01_k».proof.Defs
public import proofs.«01_k».proof.Proof.Gen.ReferenceIdeal.Run
public import proofs.«01_k».proof.Proof.Output
public import proofs.«01_k».proof.Proof.Pre
public import proofs.«01_k».proof.Proof.Reference

@[expose] public section

/-!
The kernel and the reference, at exact numbers and under the precondition, end with the same result.
-/

noncomputable section

namespace Cert.Proof

open Idealize.ShloMosaic Idealize.SL.Sem
open Cert.Bn

/-- What the kernel leaves in its result. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v21) :=
  Pipeline.afterTail₀ Cert.KernelIdeal.cfgs (Cert.KernelIdeal.Hand.dats m) 0 (Cert.KernelIdeal.Gen.V0 m) [Cert.KernelIdeal.Gen.hostOps1] c
    Cert.KernelIdeal.main_v21

/-- The kernel's result is the reference's of the same arguments. -/
theorem result_eq (m : (ℓ : Loc Cert.KernelIdeal.nD Cert.KernelIdeal.τ Cert.KernelIdeal.sig) → Buf (Elt Ideal) ℓ) (c : Dev Cert.KernelIdeal.nD)
    (ha : (Cert.KernelIdeal.Hand.args m c).Fine) : result m c = Cert.ReferenceIdeal.Hand.whole (Cert.KernelIdeal.Hand.args m c) := by
  have at_entry : ∀ (i : Fin 262144) (p : Fin 64),
      result m c (ix2 i p) = Cert.ReferenceIdeal.Hand.whole (Cert.KernelIdeal.Hand.args m c) (ix2 i p) := fun i p => by
    refine (Cert.KernelIdeal.Hand.result_num m c ha i p).trans ?_
    rcases BitVec.eq_zero_or_eq_one ((Cert.KernelIdeal.Hand.args m c).k (ix1 i)) with h | h
    · rw [Cert.KernelIdeal.Hand.outAt, if_neg (by rw [Args.M_zero h]; exact zero_ne_one), Cert.ReferenceIdeal.Hand.whole_zero i p h]
    · rw [Cert.KernelIdeal.Hand.outAt, if_pos (Args.M_one h), Par.out_eq (Args.ok ha) (Args.cnt_pos ha h),
        Cert.ReferenceIdeal.Hand.whole_one i p ha h]
  funext j
  rw [ValueIdx.eq_ix2 j]
  exact at_entry (j 0) (j 1)

/-- The reference's result, from a memory whose arguments are the kernel's. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7),
      m' ((c.tc : Thread Cert.ReferenceIdeal.nD Cert.ReferenceIdeal.τ).loc Cert.ReferenceIdeal.main_arg8),
      m' ((c.tc : Thread Cert.ReferenceIdeal.nD Cert.ReferenceIdeal.τ).loc Cert.ReferenceIdeal.main_arg9)⟩ : Args) = Cert.KernelIdeal.Hand.args m c) :
    Cert.ReferenceIdeal.Value.res_main_v74 m' c = Cert.ReferenceIdeal.Hand.whole (Cert.KernelIdeal.Hand.args m c) := by
  rw [Cert.ReferenceIdeal.Hand.res_eq]
  exact congrArg Cert.ReferenceIdeal.Hand.whole h

/-- From memories agreeing on the arguments, of which the first meets the precondition, both programs end with the same result and their
    arguments unchanged. -/
theorem algebraic : Cert.algebraic_KernelIdeal_ReferenceIdeal_pre_fine := by
  intro m g m' g' hpre hagree
  have ha : ∀ c, (Cert.KernelIdeal.Hand.args m c).Fine := fun c => fine_of _ (hpre c)
  refine ⟨result m, ?_, ?_⟩
  · refine (θ_run Cert.KernelIdeal.defs _ _).mono (fun r h c => ⟨?_, h.2.1 c⟩)
      (θ_run_and (Cert.KernelIdeal.Hand.run_main m g) (Cert.KernelIdeal.Hand.frame_main m g))
    exact (h.1.1 c).2 Cert.KernelIdeal.main_v21 (Pipeline.mem_restRefs_of Cert.KernelIdeal.main_v21 (by decide) (by decide))
  · refine (θ_run Cert.ReferenceIdeal.defs _ _).mono (fun r h c => ⟨(h c).1.trans ?_, (h c).2⟩) (Cert.ReferenceIdeal.Value.run m' g')
    obtain ⟨h0, h1, h2, h3, h4, h5, h6, h7, h8, h9⟩ := hagree c
    refine (reference_eq m m' c ?_).trans (result_eq m c (ha c)).symm
    rw [h0, h1, h2, h3, h4, h5, h6, h7, h8, h9]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fine
public import proofs.«01_k».proof.Proof.Run
public import proofs.«01_k».proof.Proof.Printed.Run
public import proofs.«01_k».proof.Proof.Algebraic
public import Idealize.ShloMosaic.Adequacy
public import Idealize.ShloMosaic.Init

@[expose] public section

noncomputable section

namespace Cert.Proof

open Idealize.ShloMosaic Idealize.SL.Sem

/-- The kernel as printed: it ends, its arguments unchanged and its counters at zero. -/
theorem frame_p : Cert.quiescent_Kernel := fun m ρ _ => Cert.Kernel.Hand.frame_main m ρ

/-- The kernel at exact numbers: the same. -/
theorem frame_pi : Cert.quiescent_KernelIdeal := fun m ρ _ => Cert.KernelIdeal.Hand.frame_main m ρ

/-- The reference at exact numbers: the same; it declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel at exact numbers, under the precondition: the same run. -/
theorem frame_pi_fine : Cert.quiescent_KernelIdeal_pre_fine := fun m ρ _ => Cert.KernelIdeal.Hand.frame_main m ρ

/-- The reference at exact numbers, under the precondition: the same run. -/
theorem frame_ri_fine : Cert.quiescent_ReferenceIdeal_pre_fine := fun m ρ _ =>
  (θ_run Cert.ReferenceIdeal.defs _ _).mono (fun r h => ⟨fun c => (h c).2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Pre_fine.Gen.facts,
  frame_p, frame_pi, frame_pi_fine, frame_ri, frame_ri_fine, trivial, algebraic⟩

end Cert.Proof

end
